-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_cartesian [hPre_cartesian : Cert.Pre_cartesian.Facts] (m : (ℓ : Loc Cert.KernelIdeal.nD Cert.KernelIdeal.τ Cert.KernelIdeal.sig) → Buf (Elt Ideal) ℓ) : Prop :=
  ∀ c : Dev Cert.KernelIdeal.nD,
    (Cert.Pre_cartesian.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cartesian [hPre_cartesian : Cert.Pre_cartesian.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cartesian.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_cartesian [hKernelIdeal : Cert.KernelIdeal.Facts] [hPre_cartesian : Cert.Pre_cartesian.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cartesian m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_cartesian [hReferenceIdeal : Cert.ReferenceIdeal.Facts] [hPre_cartesian : Cert.Pre_cartesian.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cartesian m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_cartesian [hKernelIdeal : Cert.KernelIdeal.Facts] [hReferenceIdeal : Cert.ReferenceIdeal.Facts] [hPre_cartesian : Cert.Pre_cartesian.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cartesian m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_cartesian : Cert.Pre_cartesian.Facts),
    quiescent_Kernel (hKernel := hKernel)
    ∧ quiescent_KernelIdeal (hKernelIdeal := hKernelIdeal)
    ∧ quiescent_KernelIdeal_pre_cartesian (hKernelIdeal := hKernelIdeal) (hPre_cartesian := hPre_cartesian)
    ∧ quiescent_ReferenceIdeal (hReferenceIdeal := hReferenceIdeal)
    ∧ quiescent_ReferenceIdeal_pre_cartesian (hReferenceIdeal := hReferenceIdeal) (hPre_cartesian := hPre_cartesian)
    ∧ preserves_Kernel_KernelIdeal
    ∧ algebraic_KernelIdeal_ReferenceIdeal_pre_cartesian (hKernelIdeal := hKernelIdeal) (hReferenceIdeal := hReferenceIdeal) (hPre_cartesian := hPre_cartesian)
-- ==== Pre_cartesian.lean ====
abbrev S1024x7x4 : Shape := ⟨3, ![1024, 7, 4]⟩
abbrev S16384x7 : Shape := ⟨2, ![16384, 7]⟩
abbrev S_ : Shape := ⟨0, ![]⟩

class Facts : Prop where
  bcast_S_S16384x7 : S_.BroadcastsInDim S16384x7 (![] : Fin 0 → Fin S16384x7.rank)
  reducesTo_S16384x7_S_d0_1 : S16384x7.ReducesTo [0, 1] S_
  h_S_ : 0 < S_.numel

variable [Facts]

def fn {F : FTy → Type} [FloatOps F] (main_arg0 : FVec F S1024x7x4 .f32) (main_arg1 : IVec S16384x7 32) : IVec S_ 1 :=
  let main_v0 : IVec S16384x7 32 := iotaInDim S16384x7 32 0
  let main_v1 : IVec S16384x7 32 := iotaInDim S16384x7 32 1
  let main_c : IVec S_ 32 := constantI S_ 32 6#32
  let main_v2 : IVec S16384x7 32 := broadcastInDim S16384x7 ![] bcast_S_S16384x7 main_c
  let main_v3 : IVec S16384x7 32 := subi main_v2 main_v1
  let main_c_0 : IVec S_ 32 := constantI S_ 32 2#32
  let main_v4 : IVec S16384x7 32 := broadcastInDim S16384x7 ![] bcast_S_S16384x7 main_c_0
  let main_v5 : IVec S16384x7 32 := muli main_v4 main_v3
  let main_v6 : IVec S16384x7 32 := Host.shrui main_v0 main_v5
  let main_c_1 : IVec S_ 32 := constantI S_ 32 3#32
  let main_v7 : IVec S16384x7 32 := broadcastInDim S16384x7 ![] bcast_S_S16384x7 main_c_1
  let main_v8 : IVec S16384x7 32 := andi main_v6 main_v7
  let main_v9 : IVec S16384x7 1 := cmpi .eq main_arg1 main_v8
  let main_c_2 : IVec S_ 1 := constantI S_ 1 1#1
  let main_v10 : IVec S_ 1 := (fun x v => Host.reduce IntOp.andi x v reducesTo_S16384x7_S_d0_1 h_S_) main_v9 main_c_2
  main_v10
-- ==== Kernel.lean ====
abbrev S1024x7x4 : Shape := ⟨3, ![1024, 7, 4]⟩
abbrev S16384x7 : Shape := ⟨2, ![16384, 7]⟩
abbrev S28672 : Shape := ⟨1, ![28672]⟩
abbrev S1024x16384 : Shape := ⟨2, ![1024, 16384]⟩
abbrev S32 : Shape := ⟨1, ![32]⟩
abbrev S64 : Shape := ⟨1, ![64]⟩
abbrev S32768 : Shape := ⟨1, ![32768]⟩
abbrev S_ : Shape := ⟨0, ![]⟩
abbrev S16 : Shape := ⟨1, ![16]⟩
abbrev S16384 : Shape := ⟨1, ![16384]⟩
abbrev S1x16384 : Shape := ⟨2, ![1, 16384]⟩

abbrev nBuf : Table → Nat
  | .hbm => 4
  | .local .scVector .vmem => 4
  | _ => 0

abbrev bufTy : (tb : Table) → Fin (nBuf tb) → BufTy
  | .hbm, ⟨0, _⟩ => ⟨S1024x7x4, .f32⟩
  | .hbm, ⟨1, _⟩ => ⟨S16384x7, .i32⟩
  | .hbm, ⟨2, _⟩ => ⟨S28672, .f32⟩
  | .hbm, ⟨3, _⟩ => ⟨S1024x16384, .f32⟩
  | .local .scVector .vmem, ⟨0, _⟩ => ⟨S28672, .f32⟩
  | .local .scVector .vmem, ⟨1, _⟩ => ⟨S32, .f32⟩
  | .local .scVector .vmem, ⟨2, _⟩ => ⟨S64, .f32⟩
  | .local .scVector .vmem, ⟨3, _⟩ => ⟨S32768, .f32⟩
  | _, _ => ⟨S1024x7x4, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c32_i32_2 : BitVec 32 := 32#32
  let v8 : BitVec 32 := Scalar.addi c0_i32_1 c32_i32_2
  let c1_i32 : BitVec 32 := 1#32
  ⟨c0_i32_1, v8, c1_i32⟩
def k0_cond1 (k0_t1 : Fin k0_t1_loop.trips) : BitVec 1 :=
  let c0_i32_1 : BitVec 32 := 0#32
  let c1_i32 : BitVec 32 := 1#32
  let arg10 : BitVec 32 := Scf.iv c0_i32_1 c1_i32 k0_t1
  let c2_i32_11 : BitVec 32 := 2#32
  let c0_i32_12 : BitVec 32 := 0#32
  let v23 : BitVec 1 := Scalar.cmpi .eq c2_i32_11 c0_i32_12
  let c1_i32_13 : BitVec 32 := 1#32
  let v24 : BitVec 32 := Scalar.select v23 c1_i32_13 c2_i32_11
  let v25 : BitVec 32 := Scalar.remsi arg10 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c0_i32_17 : BitVec 32 := 0#32
  let v33 : BitVec 1 := Scalar.cmpi .eq v32 c0_i32_17
  let v34 : BitVec 32 := Scalar.extui v33
  let c0_i32_18 : BitVec 32 := 0#32
  let v35 : BitVec 1 := Scalar.cmpi .ne v34 c0_i32_18
  v35

def k0_cond2 (k0_t1 : Fin k0_t1_loop.trips) : BitVec 1 :=
  let c0_i32_1 : BitVec 32 := 0#32
  let c1_i32 : BitVec 32 := 1#32
  let arg10 : BitVec 32 := Scf.iv c0_i32_1 c1_i32 k0_t1
  let c2_i32_28 : BitVec 32 := 2#32
  let v49 : BitVec 1 := Scalar.cmpi .sge arg10 c2_i32_28
  let v50 : BitVec 32 := Scalar.extui v49
  let c0_i32_29 : BitVec 32 := 0#32
  let v51 : BitVec 1 := Scalar.cmpi .ne v50 c0_i32_29
  v51

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_49 : BitVec 32 := 0#32
  ![v2.toNat, 0]

def k0_chk1 (k0_t1 : Fin k0_t1_loop.trips) (v55 : IVec S16 32) : Prop :=
  (∀ (k0_h1 : k0_cond1 k0_t1 = 1#1), ∀ a x, ((![v55] : Fin 1 → IVec S16 32) a x).toNat < S28672.size a)
theorem k0_idx1_inb : ∀ (k0_t1 : Fin k0_t1_loop.trips) (v55 : IVec S16 32) (k0_hw1 : k0_chk1 k0_t1 v55), ∀ (k0_h1 : k0_cond1 k0_t1 = 1#1), ∀ a x, ((![v55] : Fin 1 → IVec S16 32) a x).toNat < S28672.size a := fun k0_t1 v55 k0_hw1 k0_h1 => k0_hw1 k0_h1

def k0_chk2 (k0_t1 : Fin k0_t1_loop.trips) (v59 : IVec S16 32) : Prop :=
  (∀ (k0_h1 : k0_cond1 k0_t1 = 1#1), ∀ a x, ((![v59] : Fin 1 → IVec S16 32) a x).toNat < S28672.size a)
theorem k0_idx2_inb : ∀ (k0_t1 : Fin k0_t1_loop.trips) (v59 : IVec S16 32) (k0_hw2 : k0_chk2 k0_t1 v59), ∀ (k0_h1 : k0_cond1 k0_t1 = 1#1), ∀ a x, ((![v59] : Fin 1 → IVec S16 32) a x).toNat < S28672.size a := fun k0_t1 v59 k0_hw2 k0_h1 => k0_hw2 k0_h1

def k0_chk3 (k0_t1 : Fin k0_t1_loop.trips) (v64 : IVec S16 32) : Prop :=
  (∀ (k0_h1 : k0_cond1 k0_t1 = 1#1), ∀ a x, ((![v64] : Fin 1 → IVec S16 32) a x).toNat < S28672.size a)
theorem k0_idx3_inb : ∀ (k0_t1 : Fin k0_t1_loop.trips) (v64 : IVec S16 32) (k0_hw3 : k0_chk3 k0_t1 v64), ∀ (k0_h1 : k0_cond1 k0_t1 = 1#1), ∀ a x, ((![v64] : Fin 1 → IVec S16 32) a x).toNat < S28672.size a := fun k0_t1 v64 k0_hw3 k0_h1 => k0_hw3 k0_h1

def k0_chk4 (k0_t1 : Fin k0_t1_loop.trips) (v68 : IVec S16 32) : Prop :=
  (∀ (k0_h1 : k0_cond1 k0_t1 = 1#1), ∀ a x, ((![v68] : Fin 1 → IVec S16 32) a x).toNat < S28672.size a)
theorem k0_idx4_inb : ∀ (k0_t1 : Fin k0_t1_loop.trips) (v68 : IVec S16 32) (k0_hw4 : k0_chk4 k0_t1 v68), ∀ (k0_h1 : k0_cond1 k0_t1 = 1#1), ∀ a x, ((![v68] : Fin 1 → IVec S16 32) a x).toNat < S28672.size a := fun k0_t1 v68 k0_hw4 k0_h1 => k0_hw4 k0_h1

def k0_chk5 (k0_t1 : Fin k0_t1_loop.trips) (v73 : IVec S16 32) : Prop :=
  (∀ (k0_h1 : k0_cond1 k0_t1 = 1#1), ∀ a x, ((![v73] : Fin 1 → IVec S16 32) a x).toNat < S28672.size a)
theorem k0_idx5_inb : ∀ (k0_t1 : Fin k0_t1_loop.trips) (v73 : IVec S16 32) (k0_hw5 : k0_chk5 k0_t1 v73), ∀ (k0_h1 : k0_cond1 k0_t1 = 1#1), ∀ a x, ((![v73] : Fin 1 → IVec S16 32) a x).toNat < S28672.size a := fun k0_t1 v73 k0_hw5 k0_h1 => k0_hw5 k0_h1

def k0_chk6 (k0_t1 : Fin k0_t1_loop.trips) (v77 : IVec S16 32) : Prop :=
  (∀ (k0_h1 : k0_cond1 k0_t1 = 1#1), ∀ a x, ((![v77] : Fin 1 → IVec S16 32) a x).toNat < S28672.size a)
theorem k0_idx6_inb : ∀ (k0_t1 : Fin k0_t1_loop.trips) (v77 : IVec S16 32) (k0_hw6 : k0_chk6 k0_t1 v77), ∀ (k0_h1 : k0_cond1 k0_t1 = 1#1), ∀ a x, ((![v77] : Fin 1 → IVec S16 32) a x).toNat < S28672.size a := fun k0_t1 v77 k0_hw6 k0_h1 => k0_hw6 k0_h1

def k0_chk7 (k0_t1 : Fin k0_t1_loop.trips) (v82 : IVec S16 32) : Prop :=
  (∀ (k0_h1 : k0_cond1 k0_t1 = 1#1), ∀ a x, ((![v82] : Fin 1 → IVec S16 32) a x).toNat < S32.size a)
theorem k0_idx7_inb : ∀ (k0_t1 : Fin k0_t1_loop.trips) (v82 : IVec S16 32) (k0_hw7 : k0_chk7 k0_t1 v82), ∀ (k0_h1 : k0_cond1 k0_t1 = 1#1), ∀ a x, ((![v82] : Fin 1 → IVec S16 32) a x).toNat < S32.size a := fun k0_t1 v82 k0_hw7 k0_h1 => k0_hw7 k0_h1

def k0_chk8 (k0_t1 : Fin k0_t1_loop.trips) (v85 : IVec S16 32) : Prop :=
  (∀ (k0_h1 : k0_cond1 k0_t1 = 1#1), ∀ a x, ((![v85] : Fin 1 → IVec S16 32) a x).toNat < S32.size a)
theorem k0_idx8_inb : ∀ (k0_t1 : Fin k0_t1_loop.trips) (v85 : IVec S16 32) (k0_hw8 : k0_chk8 k0_t1 v85), ∀ (k0_h1 : k0_cond1 k0_t1 = 1#1), ∀ a x, ((![v85] : Fin 1 → IVec S16 32) a x).toNat < S32.size a := fun k0_t1 v85 k0_hw8 k0_h1 => k0_hw8 k0_h1

def k0_chk9 (k0_t1 : Fin k0_t1_loop.trips) (v88 : IVec S16 32) : Prop :=
  (∀ (k0_h1 : k0_cond1 k0_t1 = 1#1), ∀ a x, ((![v88] : Fin 1 → IVec S16 32) a x).toNat < S32.size a)
theorem k0_idx9_inb : ∀ (k0_t1 : Fin k0_t1_loop.trips) (v88 : IVec S16 32) (k0_hw9 : k0_chk9 k0_t1 v88), ∀ (k0_h1 : k0_cond1 k0_t1 = 1#1), ∀ a x, ((![v88] : Fin 1 → IVec S16 32) a x).toNat < S32.size a := fun k0_t1 v88 k0_hw9 k0_h1 => k0_hw9 k0_h1

def k0_chk10 (k0_t1 : Fin k0_t1_loop.trips) (v91 : IVec S16 32) : Prop :=
  (∀ (k0_h1 : k0_cond1 k0_t1 = 1#1), ∀ a x, ((![v91] : Fin 1 → IVec S16 32) a x).toNat < S32.size a)
theorem k0_idx10_inb : ∀ (k0_t1 : Fin k0_t1_loop.trips) (v91 : IVec S16 32) (k0_hw10 : k0_chk10 k0_t1 v91), ∀ (k0_h1 : k0_cond1 k0_t1 = 1#1), ∀ a x, ((![v91] : Fin 1 → IVec S16 32) a x).toNat < S32.size a := fun k0_t1 v91 k0_hw10 k0_h1 => k0_hw10 k0_h1

def k0_chk11 (k0_t1 : Fin k0_t1_loop.trips) (v94 : IVec S16 32) : Prop :=
  (∀ (k0_h1 : k0_cond1 k0_t1 = 1#1), ∀ a x, ((![v94] : Fin 1 → IVec S16 32) a x).toNat < S32.size a)
theorem k0_idx11_inb : ∀ (k0_t1 : Fin k0_t1_loop.trips) (v94 : IVec S16 32) (k0_hw11 : k0_chk11 k0_t1 v94), ∀ (k0_h1 : k0_cond1 k0_t1 = 1#1), ∀ a x, ((![v94] : Fin 1 → IVec S16 32) a x).toNat < S32.size a := fun k0_t1 v94 k0_hw11 k0_h1 => k0_hw11 k0_h1

def k0_chk12 (k0_t1 : Fin k0_t1_loop.trips) (v97 : IVec S16 32) : Prop :=
  (∀ (k0_h1 : k0_cond1 k0_t1 = 1#1), ∀ a x, ((![v97] : Fin 1 → IVec S16 32) a x).toNat < S32.size a)
theorem k0_idx12_inb : ∀ (k0_t1 : Fin k0_t1_loop.trips) (v97 : IVec S16 32) (k0_hw12 : k0_chk12 k0_t1 v97), ∀ (k0_h1 : k0_cond1 k0_t1 = 1#1), ∀ a x, ((![v97] : Fin 1 → IVec S16 32) a x).toNat < S32.size a := fun k0_t1 v97 k0_hw12 k0_h1 => k0_hw12 k0_h1

def k0_chk13 (k0_t1 : Fin k0_t1_loop.trips) (v100 : IVec S16 32) : Prop :=
  (∀ (k0_h1 : k0_cond1 k0_t1 = 1#1), ∀ a x, ((![v100] : Fin 1 → IVec S16 32) a x).toNat < S32.size a)
theorem k0_idx13_inb : ∀ (k0_t1 : Fin k0_t1_loop.trips) (v100 : IVec S16 32) (k0_hw13 : k0_chk13 k0_t1 v100), ∀ (k0_h1 : k0_cond1 k0_t1 = 1#1), ∀ a x, ((![v100] : Fin 1 → IVec S16 32) a x).toNat < S32.size a := fun k0_t1 v100 k0_hw13 k0_h1 => k0_hw13 k0_h1

def k0_chk14 (k0_t1 : Fin k0_t1_loop.trips) (v103 : IVec S16 32) : Prop :=
  (∀ (k0_h1 : k0_cond1 k0_t1 = 1#1), ∀ a x, ((![v103] : Fin 1 → IVec S16 32) a x).toNat < S32.size a)
theorem k0_idx14_inb : ∀ (k0_t1 : Fin k0_t1_loop.trips) (v103 : IVec S16 32) (k0_hw14 : k0_chk14 k0_t1 v103), ∀ (k0_h1 : k0_cond1 k0_t1 = 1#1), ∀ a x, ((![v103] : Fin 1 → IVec S16 32) a x).toNat < S32.size a := fun k0_t1 v103 k0_hw14 k0_h1 => k0_hw14 k0_h1

def k0_chk15 (k0_t1 : Fin k0_t1_loop.trips) (v106 : IVec S16 32) : Prop :=
  (∀ (k0_h1 : k0_cond1 k0_t1 = 1#1), ∀ a x, ((![v106] : Fin 1 → IVec S16 32) a x).toNat < S32.size a)
theorem k0_idx15_inb : ∀ (k0_t1 : Fin k0_t1_loop.trips) (v106 : IVec S16 32) (k0_hw15 : k0_chk15 k0_t1 v106), ∀ (k0_h1 : k0_cond1 k0_t1 = 1#1), ∀ a x, ((![v106] : Fin 1 → IVec S16 32) a x).toNat < S32.size a := fun k0_t1 v106 k0_hw15 k0_h1 => k0_hw15 k0_h1

def k0_chk16 (k0_t1 : Fin k0_t1_loop.trips) (v109 : IVec S16 32) : Prop :=
  (∀ (k0_h1 : k0_cond1 k0_t1 = 1#1), ∀ a x, ((![v109] : Fin 1 → IVec S16 32) a x).toNat < S32.size a)
theorem k0_idx16_inb : ∀ (k0_t1 : Fin k0_t1_loop.trips) (v109 : IVec S16 32) (k0_hw16 : k0_chk16 k0_t1 v109), ∀ (k0_h1 : k0_cond1 k0_t1 = 1#1), ∀ a x, ((![v109] : Fin 1 → IVec S16 32) a x).toNat < S32.size a := fun k0_t1 v109 k0_hw16 k0_h1 => k0_hw16 k0_h1

def k0_chk17 (k0_t1 : Fin k0_t1_loop.trips) (v112 : IVec S16 32) : Prop :=
  (∀ (k0_h1 : k0_cond1 k0_t1 = 1#1), ∀ a x, ((![v112] : Fin 1 → IVec S16 32) a x).toNat < S32.size a)
theorem k0_idx17_inb : ∀ (k0_t1 : Fin k0_t1_loop.trips) (v112 : IVec S16 32) (k0_hw17 : k0_chk17 k0_t1 v112), ∀ (k0_h1 : k0_cond1 k0_t1 = 1#1), ∀ a x, ((![v112] : Fin 1 → IVec S16 32) a x).toNat < S32.size a := fun k0_t1 v112 k0_hw17 k0_h1 => k0_hw17 k0_h1

def k0_chk18 (k0_t1 : Fin k0_t1_loop.trips) (v115 : IVec S16 32) : Prop :=
  (∀ (k0_h1 : k0_cond1 k0_t1 = 1#1), ∀ a x, ((![v115] : Fin 1 → IVec S16 32) a x).toNat < S32.size a)
theorem k0_idx18_inb : ∀ (k0_t1 : Fin k0_t1_loop.trips) (v115 : IVec S16 32) (k0_hw18 : k0_chk18 k0_t1 v115), ∀ (k0_h1 : k0_cond1 k0_t1 = 1#1), ∀ a x, ((![v115] : Fin 1 → IVec S16 32) a x).toNat < S32.size a := fun k0_t1 v115 k0_hw18 k0_h1 => k0_hw18 k0_h1

def k0_chk19 (k0_t1 : Fin k0_t1_loop.trips) (v118 : IVec S16 32) : Prop :=
  (∀ (k0_h1 : k0_cond1 k0_t1 = 1#1), ∀ a x, ((![v118] : Fin 1 → IVec S16 32) a x).toNat < S32.size a)
theorem k0_idx19_inb : ∀ (k0_t1 : Fin k0_t1_loop.trips) (v118 : IVec S16 32) (k0_hw19 : k0_chk19 k0_t1 v118), ∀ (k0_h1 : k0_cond1 k0_t1 = 1#1), ∀ a x, ((![v118] : Fin 1 → IVec S16 32) a x).toNat < S32.size a := fun k0_t1 v118 k0_hw19 k0_h1 => k0_hw19 k0_h1

def k0_chk20 (k0_t1 : Fin k0_t1_loop.trips) (v121 : IVec S16 32) : Prop :=
  (∀ (k0_h1 : k0_cond1 k0_t1 = 1#1), ∀ a x, ((![v121] : Fin 1 → IVec S16 32) a x).toNat < S32.size a)
theorem k0_idx20_inb : ∀ (k0_t1 : Fin k0_t1_loop.trips) (v121 : IVec S16 32) (k0_hw20 : k0_chk20 k0_t1 v121), ∀ (k0_h1 : k0_cond1 k0_t1 = 1#1), ∀ a x, ((![v121] : Fin 1 → IVec S16 32) a x).toNat < S32.size a := fun k0_t1 v121 k0_hw20 k0_h1 => k0_hw20 k0_h1

def k0_chk21 (k0_t1 : Fin k0_t1_loop.trips) (v124 : IVec S16 32) : Prop :=
  (∀ (k0_h1 : k0_cond1 k0_t1 = 1#1), ∀ a x, ((![v124] : Fin 1 → IVec S16 32) a x).toNat < S32.size a)
theorem k0_idx21_inb : ∀ (k0_t1 : Fin k0_t1_loop.trips) (v124 : IVec S16 32) (k0_hw21 : k0_chk21 k0_t1 v124), ∀ (k0_h1 : k0_cond1 k0_t1 = 1#1), ∀ a x, ((![v124] : Fin 1 → IVec S16 32) a x).toNat < S32.size a := fun k0_t1 v124 k0_hw21 k0_h1 => k0_hw21 k0_h1

def k0_chk22 (k0_t1 : Fin k0_t1_loop.trips) (v127 : IVec S16 32) : Prop :=
  (∀ (k0_h1 : k0_cond1 k0_t1 = 1#1), ∀ a x, ((![v127] : Fin 1 → IVec S16 32) a x).toNat < S32.size a)
theorem k0_idx22_inb : ∀ (k0_t1 : Fin k0_t1_loop.trips) (v127 : IVec S16 32) (k0_hw22 : k0_chk22 k0_t1 v127), ∀ (k0_h1 : k0_cond1 k0_t1 = 1#1), ∀ a x, ((![v127] : Fin 1 → IVec S16 32) a x).toNat < S32.size a := fun k0_t1 v127 k0_hw22 k0_h1 => k0_hw22 k0_h1

def k0_chk23 (k0_t1 : Fin k0_t1_loop.trips) (v131 : IVec S16 32) : Prop :=
  (∀ (k0_h1 : k0_cond1 k0_t1 = 1#1), ∀ a x, ((![v131] : Fin 1 → IVec S16 32) a x).toNat < S28672.size a)
theorem k0_idx23_inb : ∀ (k0_t1 : Fin k0_t1_loop.trips) (v131 : IVec S16 32) (k0_hw23 : k0_chk23 k0_t1 v131), ∀ (k0_h1 : k0_cond1 k0_t1 = 1#1), ∀ a x, ((![v131] : Fin 1 → IVec S16 32) a x).toNat < S28672.size a := fun k0_t1 v131 k0_hw23 k0_h1 => k0_hw23 k0_h1

def k0_chk24 (k0_t1 : Fin k0_t1_loop.trips) (v136 : IVec S16 32) : Prop :=
  (∀ (k0_h1 : k0_cond1 k0_t1 = 1#1), ∀ a x, ((![v136] : Fin 1 → IVec S16 32) a x).toNat < S28672.size a)
theorem k0_idx24_inb : ∀ (k0_t1 : Fin k0_t1_loop.trips) (v136 : IVec S16 32) (k0_hw24 : k0_chk24 k0_t1 v136), ∀ (k0_h1 : k0_cond1 k0_t1 = 1#1), ∀ a x, ((![v136] : Fin 1 → IVec S16 32) a x).toNat < S28672.size a := fun k0_t1 v136 k0_hw24 k0_h1 => k0_hw24 k0_h1

def k0_chk25 (k0_t1 : Fin k0_t1_loop.trips) (v141 : IVec S16 32) : Prop :=
  (∀ (k0_h1 : k0_cond1 k0_t1 = 1#1), ∀ a x, ((![v141] : Fin 1 → IVec S16 32) a x).toNat < S28672.size a)
theorem k0_idx25_inb : ∀ (k0_t1 : Fin k0_t1_loop.trips) (v141 : IVec S16 32) (k0_hw25 : k0_chk25 k0_t1 v141), ∀ (k0_h1 : k0_cond1 k0_t1 = 1#1), ∀ a x, ((![v141] : Fin 1 → IVec S16 32) a x).toNat < S28672.size a := fun k0_t1 v141 k0_hw25 k0_h1 => k0_hw25 k0_h1

def k0_chk26 (k0_t1 : Fin k0_t1_loop.trips) (v146 : IVec S16 32) : Prop :=
  (∀ (k0_h1 : k0_cond1 k0_t1 = 1#1), ∀ a x, ((![v146] : Fin 1 → IVec S16 32) a x).toNat < S28672.size a)
theorem k0_idx26_inb : ∀ (k0_t1 : Fin k0_t1_loop.trips) (v146 : IVec S16 32) (k0_hw26 : k0_chk26 k0_t1 v146), ∀ (k0_h1 : k0_cond1 k0_t1 = 1#1), ∀ a x, ((![v146] : Fin 1 → IVec S16 32) a x).toNat < S28672.size a := fun k0_t1 v146 k0_hw26 k0_h1 => k0_hw26 k0_h1
@[reducible] def k0_t2_loop : Scf.Loop 32 :=
  let c0_i32_41 : BitVec 32 := 0#32
  let c64_i32 : BitVec 32 := 64#32
  let v150 : BitVec 32 := Scalar.addi c0_i32_41 c64_i32
  let c1_i32_42 : BitVec 32 := 1#32
  ⟨c0_i32_41, v150, c1_i32_42⟩

def k0_chk27 (k0_t1 : Fin k0_t1_loop.trips) (v158 : IVec S16 32) : Prop :=
  (∀ (k0_h1 : k0_cond1 k0_t1 = 1#1), ∀ a x, ((![v158] : Fin 1 → IVec S16 32) a x).toNat < S64.size a)
theorem k0_idx27_inb : ∀ (k0_t1 : Fin k0_t1_loop.trips) (v158 : IVec S16 32) (k0_hw27 : k0_chk27 k0_t1 v158), ∀ (k0_h1 : k0_cond1 k0_t1 = 1#1), ∀ a x, ((![v158] : Fin 1 → IVec S16 32) a x).toNat < S64.size a := fun k0_t1 v158 k0_hw27 k0_h1 => k0_hw27 k0_h1
def k0_off2 (k0_t2 : Fin k0_t2_loop.trips) (c0_i32_49 : BitVec 32) : Fin 1 → Nat :=
  let c0_i32_48 : BitVec 32 := 0#32
  let c0_i32_41 : BitVec 32 := 0#32
  let c1_i32_42 : BitVec 32 := 1#32
  let arg12 : BitVec 32 := Scf.iv c0_i32_41 c1_i32_42 k0_t2
  let c256_i32 : BitVec 32 := 256#32
  let v160 : BitVec 32 := Scalar.muli arg12 c256_i32
  let v161 : BitVec 32 := Scalar.addi c0_i32_48 v160
  let v163 : BitVec 32 := Scalar.addi v161 c0_i32_49
  let v164 : Index := Scalar.indexCast v163
  ![v164.toNat]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_1 : BitVec 32 := 0#32
  let c1_i32 : BitVec 32 := 1#32
  let arg10 : BitVec 32 := Scf.iv c0_i32_1 c1_i32 k0_t1
  let v22 : BitVec 32 := Scalar.addi v2 arg10
  let c0_i32_45 : BitVec 32 := 0#32
  ![v22.toNat, 0]
def k0_cond3 (k0_t1 : Fin k0_t1_loop.trips) : BitVec 1 :=
  let c0_i32_1 : BitVec 32 := 0#32
  let c1_i32 : BitVec 32 := 1#32
  let arg10 : BitVec 32 := Scf.iv c0_i32_1 c1_i32 k0_t1
  let c2_i32_19 : BitVec 32 := 2#32
  let c0_i32_20 : BitVec 32 := 0#32
  let v36 : BitVec 1 := Scalar.cmpi .eq c2_i32_19 c0_i32_20
  let c1_i32_21 : BitVec 32 := 1#32
  let v37 : BitVec 32 := Scalar.select v36 c1_i32_21 c2_i32_19
  let v38 : BitVec 32 := Scalar.remsi arg10 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let c1_i32_25 : BitVec 32 := 1#32
  let v46 : BitVec 1 := Scalar.cmpi .eq v45 c1_i32_25
  let v47 : BitVec 32 := Scalar.extui v46
  let c0_i32_26 : BitVec 32 := 0#32
  let v48 : BitVec 1 := Scalar.cmpi .ne v47 c0_i32_26
  v48

def k0_cond4 (k0_t1 : Fin k0_t1_loop.trips) : BitVec 1 :=
  let c0_i32_1 : BitVec 32 := 0#32
  let c1_i32 : BitVec 32 := 1#32
  let arg10 : BitVec 32 := Scf.iv c0_i32_1 c1_i32 k0_t1
  let c2_i32_28 : BitVec 32 := 2#32
  let v49 : BitVec 1 := Scalar.cmpi .sge arg10 c2_i32_28
  let v50 : BitVec 32 := Scalar.extui v49
  let c0_i32_29 : BitVec 32 := 0#32
  let v51 : BitVec 1 := Scalar.cmpi .ne v50 c0_i32_29
  v51

def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_49 : BitVec 32 := 0#32
  ![v2.toNat, 0]

def k0_chk28 (k0_t1 : Fin k0_t1_loop.trips) (v55 : IVec S16 32) : Prop :=
  (∀ (k0_h3 : k0_cond3 k0_t1 = 1#1), ∀ a x, ((![v55] : Fin 1 → IVec S16 32) a x).toNat < S28672.size a)
theorem k0_idx28_inb : ∀ (k0_t1 : Fin k0_t1_loop.trips) (v55 : IVec S16 32) (k0_hw28 : k0_chk28 k0_t1 v55), ∀ (k0_h3 : k0_cond3 k0_t1 = 1#1), ∀ a x, ((![v55] : Fin 1 → IVec S16 32) a x).toNat < S28672.size a := fun k0_t1 v55 k0_hw28 k0_h3 => k0_hw28 k0_h3

def k0_chk29 (k0_t1 : Fin k0_t1_loop.trips) (v59 : IVec S16 32) : Prop :=
  (∀ (k0_h3 : k0_cond3 k0_t1 = 1#1), ∀ a x, ((![v59] : Fin 1 → IVec S16 32) a x).toNat < S28672.size a)
theorem k0_idx29_inb : ∀ (k0_t1 : Fin k0_t1_loop.trips) (v59 : IVec S16 32) (k0_hw29 : k0_chk29 k0_t1 v59), ∀ (k0_h3 : k0_cond3 k0_t1 = 1#1), ∀ a x, ((![v59] : Fin 1 → IVec S16 32) a x).toNat < S28672.size a := fun k0_t1 v59 k0_hw29 k0_h3 => k0_hw29 k0_h3

def k0_chk30 (k0_t1 : Fin k0_t1_loop.trips) (v64 : IVec S16 32) : Prop :=
  (∀ (k0_h3 : k0_cond3 k0_t1 = 1#1), ∀ a x, ((![v64] : Fin 1 → IVec S16 32) a x).toNat < S28672.size a)
theorem k0_idx30_inb : ∀ (k0_t1 : Fin k0_t1_loop.trips) (v64 : IVec S16 32) (k0_hw30 : k0_chk30 k0_t1 v64), ∀ (k0_h3 : k0_cond3 k0_t1 = 1#1), ∀ a x, ((![v64] : Fin 1 → IVec S16 32) a x).toNat < S28672.size a := fun k0_t1 v64 k0_hw30 k0_h3 => k0_hw30 k0_h3

def k0_chk31 (k0_t1 : Fin k0_t1_loop.trips) (v68 : IVec S16 32) : Prop :=
  (∀ (k0_h3 : k0_cond3 k0_t1 = 1#1), ∀ a x, ((![v68] : Fin 1 → IVec S16 32) a x).toNat < S28672.size a)
theorem k0_idx31_inb : ∀ (k0_t1 : Fin k0_t1_loop.trips) (v68 : IVec S16 32) (k0_hw31 : k0_chk31 k0_t1 v68), ∀ (k0_h3 : k0_cond3 k0_t1 = 1#1), ∀ a x, ((![v68] : Fin 1 → IVec S16 32) a x).toNat < S28672.size a := fun k0_t1 v68 k0_hw31 k0_h3 => k0_hw31 k0_h3

def k0_chk32 (k0_t1 : Fin k0_t1_loop.trips) (v73 : IVec S16 32) : Prop :=
  (∀ (k0_h3 : k0_cond3 k0_t1 = 1#1), ∀ a x, ((![v73] : Fin 1 → IVec S16 32) a x).toNat < S28672.size a)
theorem k0_idx32_inb : ∀ (k0_t1 : Fin k0_t1_loop.trips) (v73 : IVec S16 32) (k0_hw32 : k0_chk32 k0_t1 v73), ∀ (k0_h3 : k0_cond3 k0_t1 = 1#1), ∀ a x, ((![v73] : Fin 1 → IVec S16 32) a x).toNat < S28672.size a := fun k0_t1 v73 k0_hw32 k0_h3 => k0_hw32 k0_h3

def k0_chk33 (k0_t1 : Fin k0_t1_loop.trips) (v77 : IVec S16 32) : Prop :=
  (∀ (k0_h3 : k0_cond3 k0_t1 = 1#1), ∀ a x, ((![v77] : Fin 1 → IVec S16 32) a x).toNat < S28672.size a)
theorem k0_idx33_inb : ∀ (k0_t1 : Fin k0_t1_loop.trips) (v77 : IVec S16 32) (k0_hw33 : k0_chk33 k0_t1 v77), ∀ (k0_h3 : k0_cond3 k0_t1 = 1#1), ∀ a x, ((![v77] : Fin 1 → IVec S16 32) a x).toNat < S28672.size a := fun k0_t1 v77 k0_hw33 k0_h3 => k0_hw33 k0_h3

def k0_chk34 (k0_t1 : Fin k0_t1_loop.trips) (v82 : IVec S16 32) : Prop :=
  (∀ (k0_h3 : k0_cond3 k0_t1 = 1#1), ∀ a x, ((![v82] : Fin 1 → IVec S16 32) a x).toNat < S32.size a)
theorem k0_idx34_inb : ∀ (k0_t1 : Fin k0_t1_loop.trips) (v82 : IVec S16 32) (k0_hw34 : k0_chk34 k0_t1 v82), ∀ (k0_h3 : k0_cond3 k0_t1 = 1#1), ∀ a x, ((![v82] : Fin 1 → IVec S16 32) a x).toNat < S32.size a := fun k0_t1 v82 k0_hw34 k0_h3 => k0_hw34 k0_h3

def k0_chk35 (k0_t1 : Fin k0_t1_loop.trips) (v85 : IVec S16 32) : Prop :=
  (∀ (k0_h3 : k0_cond3 k0_t1 = 1#1), ∀ a x, ((![v85] : Fin 1 → IVec S16 32) a x).toNat < S32.size a)
theorem k0_idx35_inb : ∀ (k0_t1 : Fin k0_t1_loop.trips) (v85 : IVec S16 32) (k0_hw35 : k0_chk35 k0_t1 v85), ∀ (k0_h3 : k0_cond3 k0_t1 = 1#1), ∀ a x, ((![v85] : Fin 1 → IVec S16 32) a x).toNat < S32.size a := fun k0_t1 v85 k0_hw35 k0_h3 => k0_hw35 k0_h3

def k0_chk36 (k0_t1 : Fin k0_t1_loop.trips) (v88 : IVec S16 32) : Prop :=
  (∀ (k0_h3 : k0_cond3 k0_t1 = 1#1), ∀ a x, ((![v88] : Fin 1 → IVec S16 32) a x).toNat < S32.size a)
theorem k0_idx36_inb : ∀ (k0_t1 : Fin k0_t1_loop.trips) (v88 : IVec S16 32) (k0_hw36 : k0_chk36 k0_t1 v88), ∀ (k0_h3 : k0_cond3 k0_t1 = 1#1), ∀ a x, ((![v88] : Fin 1 → IVec S16 32) a x).toNat < S32.size a := fun k0_t1 v88 k0_hw36 k0_h3 => k0_hw36 k0_h3

def k0_chk37 (k0_t1 : Fin k0_t1_loop.trips) (v91 : IVec S16 32) : Prop :=
  (∀ (k0_h3 : k0_cond3 k0_t1 = 1#1), ∀ a x, ((![v91] : Fin 1 → IVec S16 32) a x).toNat < S32.size a)
theorem k0_idx37_inb : ∀ (k0_t1 : Fin k0_t1_loop.trips) (v91 : IVec S16 32) (k0_hw37 : k0_chk37 k0_t1 v91), ∀ (k0_h3 : k0_cond3 k0_t1 = 1#1), ∀ a x, ((![v91] : Fin 1 → IVec S16 32) a x).toNat < S32.size a := fun k0_t1 v91 k0_hw37 k0_h3 => k0_hw37 k0_h3

def k0_chk38 (k0_t1 : Fin k0_t1_loop.trips) (v94 : IVec S16 32) : Prop :=
  (∀ (k0_h3 : k0_cond3 k0_t1 = 1#1), ∀ a x, ((![v94] : Fin 1 → IVec S16 32) a x).toNat < S32.size a)
theorem k0_idx38_inb : ∀ (k0_t1 : Fin k0_t1_loop.trips) (v94 : IVec S16 32) (k0_hw38 : k0_chk38 k0_t1 v94), ∀ (k0_h3 : k0_cond3 k0_t1 = 1#1), ∀ a x, ((![v94] : Fin 1 → IVec S16 32) a x).toNat < S32.size a := fun k0_t1 v94 k0_hw38 k0_h3 => k0_hw38 k0_h3

def k0_chk39 (k0_t1 : Fin k0_t1_loop.trips) (v97 : IVec S16 32) : Prop :=
  (∀ (k0_h3 : k0_cond3 k0_t1 = 1#1), ∀ a x, ((![v97] : Fin 1 → IVec S16 32) a x).toNat < S32.size a)
theorem k0_idx39_inb : ∀ (k0_t1 : Fin k0_t1_loop.trips) (v97 : IVec S16 32) (k0_hw39 : k0_chk39 k0_t1 v97), ∀ (k0_h3 : k0_cond3 k0_t1 = 1#1), ∀ a x, ((![v97] : Fin 1 → IVec S16 32) a x).toNat < S32.size a := fun k0_t1 v97 k0_hw39 k0_h3 => k0_hw39 k0_h3

def k0_chk40 (k0_t1 : Fin k0_t1_loop.trips) (v100 : IVec S16 32) : Prop :=
  (∀ (k0_h3 : k0_cond3 k0_t1 = 1#1), ∀ a x, ((![v100] : Fin 1 → IVec S16 32) a x).toNat < S32.size a)
theorem k0_idx40_inb : ∀ (k0_t1 : Fin k0_t1_loop.trips) (v100 : IVec S16 32) (k0_hw40 : k0_chk40 k0_t1 v100), ∀ (k0_h3 : k0_cond3 k0_t1 = 1#1), ∀ a x, ((![v100] : Fin 1 → IVec S16 32) a x).toNat < S32.size a := fun k0_t1 v100 k0_hw40 k0_h3 => k0_hw40 k0_h3

def k0_chk41 (k0_t1 : Fin k0_t1_loop.trips) (v103 : IVec S16 32) : Prop :=
  (∀ (k0_h3 : k0_cond3 k0_t1 = 1#1), ∀ a x, ((![v103] : Fin 1 → IVec S16 32) a x).toNat < S32.size a)
theorem k0_idx41_inb : ∀ (k0_t1 : Fin k0_t1_loop.trips) (v103 : IVec S16 32) (k0_hw41 : k0_chk41 k0_t1 v103), ∀ (k0_h3 : k0_cond3 k0_t1 = 1#1), ∀ a x, ((![v103] : Fin 1 → IVec S16 32) a x).toNat < S32.size a := fun k0_t1 v103 k0_hw41 k0_h3 => k0_hw41 k0_h3

def k0_chk42 (k0_t1 : Fin k0_t1_loop.trips) (v106 : IVec S16 32) : Prop :=
  (∀ (k0_h3 : k0_cond3 k0_t1 = 1#1), ∀ a x, ((![v106] : Fin 1 → IVec S16 32) a x).toNat < S32.size a)
theorem k0_idx42_inb : ∀ (k0_t1 : Fin k0_t1_loop.trips) (v106 : IVec S16 32) (k0_hw42 : k0_chk42 k0_t1 v106), ∀ (k0_h3 : k0_cond3 k0_t1 = 1#1), ∀ a x, ((![v106] : Fin 1 → IVec S16 32) a x).toNat < S32.size a := fun k0_t1 v106 k0_hw42 k0_h3 => k0_hw42 k0_h3

def k0_chk43 (k0_t1 : Fin k0_t1_loop.trips) (v109 : IVec S16 32) : Prop :=
  (∀ (k0_h3 : k0_cond3 k0_t1 = 1#1), ∀ a x, ((![v109] : Fin 1 → IVec S16 32) a x).toNat < S32.size a)
theorem k0_idx43_inb : ∀ (k0_t1 : Fin k0_t1_loop.trips) (v109 : IVec S16 32) (k0_hw43 : k0_chk43 k0_t1 v109), ∀ (k0_h3 : k0_cond3 k0_t1 = 1#1), ∀ a x, ((![v109] : Fin 1 → IVec S16 32) a x).toNat < S32.size a := fun k0_t1 v109 k0_hw43 k0_h3 => k0_hw43 k0_h3

def k0_chk44 (k0_t1 : Fin k0_t1_loop.trips) (v112 : IVec S16 32) : Prop :=
  (∀ (k0_h3 : k0_cond3 k0_t1 = 1#1), ∀ a x, ((![v112] : Fin 1 → IVec S16 32) a x).toNat < S32.size a)
theorem k0_idx44_inb : ∀ (k0_t1 : Fin k0_t1_loop.trips) (v112 : IVec S16 32) (k0_hw44 : k0_chk44 k0_t1 v112), ∀ (k0_h3 : k0_cond3 k0_t1 = 1#1), ∀ a x, ((![v112] : Fin 1 → IVec S16 32) a x).toNat < S32.size a := fun k0_t1 v112 k0_hw44 k0_h3 => k0_hw44 k0_h3

def k0_chk45 (k0_t1 : Fin k0_t1_loop.trips) (v115 : IVec S16 32) : Prop :=
  (∀ (k0_h3 : k0_cond3 k0_t1 = 1#1), ∀ a x, ((![v115] : Fin 1 → IVec S16 32) a x).toNat < S32.size a)
theorem k0_idx45_inb : ∀ (k0_t1 : Fin k0_t1_loop.trips) (v115 : IVec S16 32) (k0_hw45 : k0_chk45 k0_t1 v115), ∀ (k0_h3 : k0_cond3 k0_t1 = 1#1), ∀ a x, ((![v115] : Fin 1 → IVec S16 32) a x).toNat < S32.size a := fun k0_t1 v115 k0_hw45 k0_h3 => k0_hw45 k0_h3

def k0_chk46 (k0_t1 : Fin k0_t1_loop.trips) (v118 : IVec S16 32) : Prop :=
  (∀ (k0_h3 : k0_cond3 k0_t1 = 1#1), ∀ a x, ((![v118] : Fin 1 → IVec S16 32) a x).toNat < S32.size a)
theorem k0_idx46_inb : ∀ (k0_t1 : Fin k0_t1_loop.trips) (v118 : IVec S16 32) (k0_hw46 : k0_chk46 k0_t1 v118), ∀ (k0_h3 : k0_cond3 k0_t1 = 1#1), ∀ a x, ((![v118] : Fin 1 → IVec S16 32) a x).toNat < S32.size a := fun k0_t1 v118 k0_hw46 k0_h3 => k0_hw46 k0_h3

def k0_chk47 (k0_t1 : Fin k0_t1_loop.trips) (v121 : IVec S16 32) : Prop :=
  (∀ (k0_h3 : k0_cond3 k0_t1 = 1#1), ∀ a x, ((![v121] : Fin 1 → IVec S16 32) a x).toNat < S32.size a)
theorem k0_idx47_inb : ∀ (k0_t1 : Fin k0_t1_loop.trips) (v121 : IVec S16 32) (k0_hw47 : k0_chk47 k0_t1 v121), ∀ (k0_h3 : k0_cond3 k0_t1 = 1#1), ∀ a x, ((![v121] : Fin 1 → IVec S16 32) a x).toNat < S32.size a := fun k0_t1 v121 k0_hw47 k0_h3 => k0_hw47 k0_h3

def k0_chk48 (k0_t1 : Fin k0_t1_loop.trips) (v124 : IVec S16 32) : Prop :=
  (∀ (k0_h3 : k0_cond3 k0_t1 = 1#1), ∀ a x, ((![v124] : Fin 1 → IVec S16 32) a x).toNat < S32.size a)
theorem k0_idx48_inb : ∀ (k0_t1 : Fin k0_t1_loop.trips) (v124 : IVec S16 32) (k0_hw48 : k0_chk48 k0_t1 v124), ∀ (k0_h3 : k0_cond3 k0_t1 = 1#1), ∀ a x, ((![v124] : Fin 1 → IVec S16 32) a x).toNat < S32.size a := fun k0_t1 v124 k0_hw48 k0_h3 => k0_hw48 k0_h3

def k0_chk49 (k0_t1 : Fin k0_t1_loop.trips) (v127 : IVec S16 32) : Prop :=
  (∀ (k0_h3 : k0_cond3 k0_t1 = 1#1), ∀ a x, ((![v127] : Fin 1 → IVec S16 32) a x).toNat < S32.size a)
theorem k0_idx49_inb : ∀ (k0_t1 : Fin k0_t1_loop.trips) (v127 : IVec S16 32) (k0_hw49 : k0_chk49 k0_t1 v127), ∀ (k0_h3 : k0_cond3 k0_t1 = 1#1), ∀ a x, ((![v127] : Fin 1 → IVec S16 32) a x).toNat < S32.size a := fun k0_t1 v127 k0_hw49 k0_h3 => k0_hw49 k0_h3

def k0_chk50 (k0_t1 : Fin k0_t1_loop.trips) (v131 : IVec S16 32) : Prop :=
  (∀ (k0_h3 : k0_cond3 k0_t1 = 1#1), ∀ a x, ((![v131] : Fin 1 → IVec S16 32) a x).toNat < S28672.size a)
theorem k0_idx50_inb : ∀ (k0_t1 : Fin k0_t1_loop.trips) (v131 : IVec S16 32) (k0_hw50 : k0_chk50 k0_t1 v131), ∀ (k0_h3 : k0_cond3 k0_t1 = 1#1), ∀ a x, ((![v131] : Fin 1 → IVec S16 32) a x).toNat < S28672.size a := fun k0_t1 v131 k0_hw50 k0_h3 => k0_hw50 k0_h3

def k0_chk51 (k0_t1 : Fin k0_t1_loop.trips) (v136 : IVec S16 32) : Prop :=
  (∀ (k0_h3 : k0_cond3 k0_t1 = 1#1), ∀ a x, ((![v136] : Fin 1 → IVec S16 32) a x).toNat < S28672.size a)
theorem k0_idx51_inb : ∀ (k0_t1 : Fin k0_t1_loop.trips) (v136 : IVec S16 32) (k0_hw51 : k0_chk51 k0_t1 v136), ∀ (k0_h3 : k0_cond3 k0_t1 = 1#1), ∀ a x, ((![v136] : Fin 1 → IVec S16 32) a x).toNat < S28672.size a := fun k0_t1 v136 k0_hw51 k0_h3 => k0_hw51 k0_h3

def k0_chk52 (k0_t1 : Fin k0_t1_loop.trips) (v141 : IVec S16 32) : Prop :=
  (∀ (k0_h3 : k0_cond3 k0_t1 = 1#1), ∀ a x, ((![v141] : Fin 1 → IVec S16 32) a x).toNat < S28672.size a)
theorem k0_idx52_inb : ∀ (k0_t1 : Fin k0_t1_loop.trips) (v141 : IVec S16 32) (k0_hw52 : k0_chk52 k0_t1 v141), ∀ (k0_h3 : k0_cond3 k0_t1 = 1#1), ∀ a x, ((![v141] : Fin 1 → IVec S16 32) a x).toNat < S28672.size a := fun k0_t1 v141 k0_hw52 k0_h3 => k0_hw52 k0_h3

def k0_chk53 (k0_t1 : Fin k0_t1_loop.trips) (v146 : IVec S16 32) : Prop :=
  (∀ (k0_h3 : k0_cond3 k0_t1 = 1#1), ∀ a x, ((![v146] : Fin 1 → IVec S16 32) a x).toNat < S28672.size a)
theorem k0_idx53_inb : ∀ (k0_t1 : Fin k0_t1_loop.trips) (v146 : IVec S16 32) (k0_hw53 : k0_chk53 k0_t1 v146), ∀ (k0_h3 : k0_cond3 k0_t1 = 1#1), ∀ a x, ((![v146] : Fin 1 → IVec S16 32) a x).toNat < S28672.size a := fun k0_t1 v146 k0_hw53 k0_h3 => k0_hw53 k0_h3
@[reducible] def k0_t3_loop : Scf.Loop 32 :=
  let c0_i32_41 : BitVec 32 := 0#32
  let c64_i32 : BitVec 32 := 64#32
  let v150 : BitVec 32 := Scalar.addi c0_i32_41 c64_i32
  let c1_i32_42 : BitVec 32 := 1#32
  ⟨c0_i32_41, v150, c1_i32_42⟩

def k0_chk54 (k0_t1 : Fin k0_t1_loop.trips) (v158 : IVec S16 32) : Prop :=
  (∀ (k0_h3 : k0_cond3 k0_t1 = 1#1), ∀ a x, ((![v158] : Fin 1 → IVec S16 32) a x).toNat < S64.size a)
theorem k0_idx54_inb : ∀ (k0_t1 : Fin k0_t1_loop.trips) (v158 : IVec S16 32) (k0_hw54 : k0_chk54 k0_t1 v158), ∀ (k0_h3 : k0_cond3 k0_t1 = 1#1), ∀ a x, ((![v158] : Fin 1 → IVec S16 32) a x).toNat < S64.size a := fun k0_t1 v158 k0_hw54 k0_h3 => k0_hw54 k0_h3
def k0_off5 (k0_t3 : Fin k0_t3_loop.trips) (c0_i32_49 : BitVec 32) : Fin 1 → Nat :=
  let c16384_i32_48 : BitVec 32 := 16384#32
  let c0_i32_41 : BitVec 32 := 0#32
  let c1_i32_42 : BitVec 32 := 1#32
  let arg12 : BitVec 32 := Scf.iv c0_i32_41 c1_i32_42 k0_t3
  let c256_i32 : BitVec 32 := 256#32
  let v160 : BitVec 32 := Scalar.muli arg12 c256_i32
  let v161 : BitVec 32 := Scalar.addi c16384_i32_48 v160
  let v163 : BitVec 32 := Scalar.addi v161 c0_i32_49
  let v164 : Index := Scalar.indexCast v163
  ![v164.toNat]
def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_1 : BitVec 32 := 0#32
  let c1_i32 : BitVec 32 := 1#32
  let arg10 : BitVec 32 := Scf.iv c0_i32_1 c1_i32 k0_t1
  let v22 : BitVec 32 := Scalar.addi v2 arg10
  let c0_i32_45 : BitVec 32 := 0#32
  ![v22.toNat, 0]
def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_5 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x7x4 : Shape := ⟨3, ![1024, 7, 4]⟩
abbrev S16384x7 : Shape := ⟨2, ![16384, 7]⟩
abbrev S1024x4x7 : Shape := ⟨3, ![1024, 4, 7]⟩
abbrev S1x16384x7 : Shape := ⟨3, ![1, 16384, 7]⟩
abbrev S1024x16384x7 : Shape := ⟨3, ![1024, 16384, 7]⟩
abbrev S_ : Shape := ⟨0, ![]⟩
abbrev S1024x16384x7x1 : Shape := ⟨4, ![1024, 16384, 7, 1]⟩
abbrev S1 : Shape := ⟨1, ![1]⟩
abbrev S1x1x1x1 : Shape := ⟨4, ![1, 1, 1, 1]⟩
abbrev S1024x16384x1 : Shape := ⟨3, ![1024, 16384, 1]⟩
abbrev S1024x16384 : Shape := ⟨2, ![1024, 16384]⟩

abbrev nBuf : Space → Nat
  | .hbm => 47
  | .vmem => 0
  | .smem => 0
  | _ => 0

abbrev bufTy : (tb : Table) → Fin (tcTables nBuf tb) → BufTy
  | .hbm, ⟨0, _⟩ => ⟨S1024x7x4, .f32⟩
  | .hbm, ⟨1, _⟩ => ⟨S16384x7, .i32⟩
  | .hbm, ⟨2, _⟩ => ⟨S1024x4x7, .f32⟩
  | .hbm, ⟨3, _⟩ => ⟨S1x16384x7, .i32⟩
  | .hbm, ⟨4, _⟩ => ⟨S1024x16384x7, .i32⟩
  | .hbm, ⟨5, _⟩ => ⟨S_, .i32⟩
  | .hbm, ⟨6, _⟩ => ⟨S1024x16384x7, .i32⟩
  | .hbm, ⟨7, _⟩ => ⟨S1024x16384x7, .i1⟩
  | .hbm, ⟨8, _⟩ => ⟨S_, .i32⟩
  | .hbm, ⟨9, _⟩ => ⟨S1024x16384x7, .i32⟩
  | .hbm, ⟨10, _⟩ => ⟨S1024x16384x7, .i32⟩
  | .hbm, ⟨11, _⟩ => ⟨S1024x16384x7, .i32⟩
  | .hbm, ⟨12, _⟩ => ⟨S1024x16384x7x1, .i32⟩
  | .hbm, ⟨13, _⟩ => ⟨S1, .i32⟩
  | .hbm, ⟨14, _⟩ => ⟨S_, .i32⟩
  | .hbm, ⟨15, _⟩ => ⟨S1024x16384x7x1, .i32⟩
  | .hbm, ⟨16, _⟩ => ⟨S1024x16384x7x1, .i1⟩
  | .hbm, ⟨17, _⟩ => ⟨S1x1x1x1, .i32⟩
  | .hbm, ⟨18, _⟩ => ⟨S1024x16384x7x1, .i32⟩
  | .hbm, ⟨19, _⟩ => ⟨S1024x16384x7x1, .i1⟩
  | .hbm, ⟨20, _⟩ => ⟨S1024x16384x7x1, .i1⟩
  | .hbm, ⟨21, _⟩ => ⟨S_, .i1⟩
  | .hbm, ⟨22, _⟩ => ⟨S1024x16384x7, .i1⟩
  | .hbm, ⟨23, _⟩ => ⟨S1024x16384x7, .f32⟩
  | .hbm, ⟨24, _⟩ => ⟨S_, .f32⟩
  | .hbm, ⟨25, _⟩ => ⟨S1024x16384x7, .f32⟩
  | .hbm, ⟨26, _⟩ => ⟨S1024x16384x7, .f32⟩
  | .hbm, ⟨27, _⟩ => ⟨S1024x16384x1, .f32⟩
  | .hbm, ⟨28, _⟩ => ⟨S1024x16384, .f32⟩
  | .hbm, ⟨29, _⟩ => ⟨S1024x16384x1, .f32⟩
  | .hbm, ⟨30, _⟩ => ⟨S1024x16384, .f32⟩
  | .hbm, ⟨31, _⟩ => ⟨S1024x16384, .f32⟩
  | .hbm, ⟨32, _⟩ => ⟨S1024x16384x1, .f32⟩
  | .hbm, ⟨33, _⟩ => ⟨S1024x16384, .f32⟩
  | .hbm, ⟨34, _⟩ => ⟨S1024x16384, .f32⟩
  | .hbm, ⟨35, _⟩ => ⟨S1024x16384x1, .f32⟩
  | .hbm, ⟨36, _⟩ => ⟨S1024x16384, .f32⟩
  | .hbm, ⟨37, _⟩ => ⟨S1024x16384, .f32⟩
  | .hbm, ⟨38, _⟩ => ⟨S1024x16384x1, .f32⟩
  | .hbm, ⟨39, _⟩ => ⟨S1024x16384, .f32⟩
  | .hbm, ⟨40, _⟩ => ⟨S1024x16384, .f32⟩
  | .hbm, ⟨41, _⟩ => ⟨S1024x16384x1, .f32⟩
  | .hbm, ⟨42, _⟩ => ⟨S1024x16384, .f32⟩
  | .hbm, ⟨43, _⟩ => ⟨S1024x16384, .f32⟩
  | .hbm, ⟨44, _⟩ => ⟨S1024x16384x1, .f32⟩
  | .hbm, ⟨45, _⟩ => ⟨S1024x16384, .f32⟩
  | .hbm, ⟨46, _⟩ => ⟨S1024x16384, .f32⟩
  | _, _ => ⟨S1024x7x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩

abbrev nD : Nat := 1
abbrev τ : Topo := Topo.v7x

variable {F : FTy → Type} [FloatOps F]
-- ==== Proof.Text.lean ====
/-
  The kernel's body as a short program text. The printed body writes the same row computation out twice, once for
  each half of the output buffer, every gather and every store on its own line. Here the row is written once, over
  the choice of half (`Half`), and the printed branches are shown to be this text at the two halves.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Krao

open Cert.KernelIdeal Cert.KernelIdeal.Gen
open Idealize.ShloMosaic Idealize.SL.Sem

variable {F : FTy → Type} [FloatOps F]

/-! ## Names -/

/-- The processor of the tile at grid coordinates `i`. -/
abbrev procOf (i : grid0.Coords) : Proc τ := .scVector ((i 0).castLE hcore0) ((i 1).castLE hsub0)

/-- Programs of the tile at `i`. -/
abbrev TP (F : FTy → Type) (i : grid0.Coords) : Type → Type 1 := Prog (TpuEff nD τ sig (Elt F) Λ₀ (procOf i))

abbrev xA : Memref sig .scVector .hbm S28672 .f32 := Memref.whole main_v0_scv
abbrev oA : Memref sig .scVector .hbm S1024x16384 .f32 := Memref.whole main_v1_scv
abbrev xT : Memref sig .scVector .vmem S28672 .f32 := Memref.whole cc0_scratch0
abbrev v34T : Memref sig .scVector .vmem S32 .f32 := Memref.whole cc0_scratch1
abbrev k012T : Memref sig .scVector .vmem S64 .f32 := Memref.whole cc0_scratch2
abbrev oT : Memref sig .scVector .vmem S32768 .f32 := Memref.whole cc0_scratch3

/-! ## Small programs -/

/-- `n` programs in a row, their results together. -/
def collect {ε : Type → Type} {α : Type} : (n : ℕ) → (Fin n → Prog ε α) → Prog ε (Fin n → α)
  | 0, _ => pure Fin.elim0
  | n + 1, f => f 0 >>= fun a => collect n (fun j => f j.succ) >>= fun l => pure (Fin.cons a l)

/-- What a gather assumes before it reads: under the branch's condition `c`, every lane's index is inside. -/
abbrev Inside (c : BitVec 1) (n : ℕ) (v : IVec S16 32) : Prop :=
  ∀ _ : c = 1#1, ∀ a x, ((![v] : Fin 1 → IVec S16 32) a x).toNat < (⟨1, ![n]⟩ : Shape).size a

/-- One gather of sixteen words: the side condition assumed, then the indexed read. -/
def gat (i : grid0.Coords) {c : BitVec 1} (hc : c = 1#1) {n : ℕ} (m : Memref sig .scVector .vmem ⟨1, ![n]⟩ .f32)
    (hl : m.view.Loads) (v : IVec S16 32) : TP F i (Vec F S16 .f32) :=
  Prog.lift (TpuEff.assume (Inside c n v) (decidable_of_iff' _ Iff.rfl)) >>= fun h =>
    SparseCore.vectorLoadIdx m ![v] (h.down hc) hl

/-- One store of sixteen words at an offset, the words there read first and not used. -/
def put (i : grid0.Coords) {n : ℕ} (m : Memref sig .scVector .vmem ⟨1, ![n]⟩ .f32) (off : Fin 1 → ℕ)
    (hoff : ∀ a, off a + S16.size a ≤ (⟨1, ![n]⟩ : Shape).size a) (w : Vec F S16 .f32) : TP F i PUnit :=
  Prog.lift (.load m (Rect.unit (s := ⟨1, ![n]⟩) off S16.size hoff).toLoadRect (View.loadsAt_vmem h_S16)) >>= fun _ =>
    Prog.lift (.store m (Rect.unit (s := ⟨1, ![n]⟩) off S16.size hoff) w Finset.univ (View.stores_vmem_bits_univ h_S16 rfl) (.inl rfl))

/-! ## The half of the output buffer a row is built in -/

/-- One half: where it starts, where its words lie trip by trip, and the semaphore of its copies. -/
structure Half where
  base : Fin 1 → ℕ
  base_in : ∀ a, base a + S16384.size a ≤ S32768.size a
  off : Fin k0_t2_loop.trips → BitVec 32 → Fin 1 → ℕ
  off_in : ∀ u (r : Fin 16), ∀ a, off u (BitVec.ofNat 32 (16 * r.val)) a + S16.size a ≤ S32768.size a
  sem : DmaSem sig

def half0 : Half where
  base := ![0]
  base_in := inb_S32768_S16384_0
  off := k0_off2
  off_in u r a := k0_off2_inb ⟨0, by decide⟩ u (by decide) r a
  sem := cc0_scratch4.sem

def half1 : Half where
  base := ![16384]
  base_in := inb_S32768_S16384_16384
  off := k0_off5
  off_in u r a := k0_off5_inb ⟨1, by decide⟩ u (by decide) r a
  sem := cc0_scratch5.sem

/-- The half's sixteen thousand words of the output buffer. -/
abbrev Half.buf (H : Half) : Memref sig .scVector .vmem S16384 .f32 :=
  oT.slice (Rect.unit (s := S32768) H.base S16384.size H.base_in) (fun _ => rfl)

/-- One row of the output array. -/
abbrev rowA (off : Fin 2 → ℕ) (h : ∀ a, off a + S1x16384.size a ≤ S1024x16384.size a) : Memref sig .scVector .hbm S16384 .f32 :=
  (oA.slice (Rect.unit (s := S1024x16384) off S1x16384.size h) (fun _ => rfl)).squeeze S16384 squeezes_S1x16384_S16384

/-! ## The row -/

/-- Sixteen products `x[b, p, lane / 4] * x[b, q, lane % 4]`, the two variables' words starting at `w + a`, `w + a'`. -/
def pair (i : grid0.Coords) {c : BitVec 1} (hc : c = 1#1) (w : BitVec 32) (a a' : BitVec 32) : TP F i (FVec F S16 .f32) :=
  gat i hc xT (View.loads_vmem h_S28672) (addi (broadcast S16 (Scalar.addi w a)) k0_pay1) >>= fun p =>
    gat i hc xT (View.loads_vmem h_S28672) (addi (broadcast S16 (Scalar.addi w a')) k0_pay2) >>= fun q =>
      pure (mulf p q)

theorem put32_in (k : Fin 2) : ∀ a, (![16 * k.val] : Fin 1 → ℕ) a + S16.size a ≤ S32.size a := by decide +revert
theorem put64_in (k : Fin 4) : ∀ a, (![16 * k.val] : Fin 1 → ℕ) a + S16.size a ≤ S64.size a := by decide +revert

/-- The two scratch tables of a row and the sixteen right factors. -/
def tables (i : grid0.Coords) {c : BitVec 1} (hc : c = 1#1) (w : BitVec 32) : TP F i (Fin 16 → FVec F S16 .f32) := do
  let v12 ← pair i hc w 4#32 8#32
  let v34 ← pair i hc w 12#32 16#32
  let v56 ← pair i hc w 20#32 24#32
  let _ ← collect 2 fun k => put i v34T ![16 * k.val] (put32_in k) v34
  let ws ← collect 16 fun j => gat i hc v34T (View.loads_vmem h_S32) (broadcast S16 (BitVec.ofNat 32 (16 + j.val))) >>= fun s => pure (mulf s v56)
  let _ ← collect 4 fun k => gat i hc xT (View.loads_vmem h_S28672) (broadcast S16 (Scalar.addi w (BitVec.ofNat 32 k.val))) >>= fun s =>
    put i k012T ![16 * k.val] (put64_in k) (mulf s v12)
  pure ws

/-- One trip over the outer index: sixteen stores, each the splat of one word times a right factor. -/
def fillTrip (i : grid0.Coords) {c : BitVec 1} (hc : c = 1#1) (H : Half) (ws : Fin 16 → FVec F S16 .f32) (u : Fin k0_t2_loop.trips) : TP F i PUnit := do
  let s ← gat i hc k012T (View.loads_vmem h_S64) (broadcast S16 (Scf.iv 0#32 1#32 u))
  let _ ← collect 16 fun j => put i oT (H.off u (BitVec.ofNat 32 (16 * j.val))) (H.off_in u j) (mulf s (ws j))
  pure ⟨⟩

def fill (i : grid0.Coords) {c : BitVec 1} (hc : c = 1#1) (H : Half) (ws : Fin 16 → FVec F S16 .f32) : TP F i PUnit := do
  let _ ← Scf.Loop.for k0_t2_loop k0_t2_abs.1 0#32 fun u (_ : BitVec 32) => fillTrip i hc H ws u >>= fun _ => pure 0#32
  pure ⟨⟩

/-- The wait for the copy two rows back, where there is one. -/
def drain (i : grid0.Coords) (H : Half) (d : BitVec 1) (off : Fin 2 → ℕ) (hoff : d = 1#1 → ∀ a, off a + S1x16384.size a ≤ S1024x16384.size a) : TP F i PUnit :=
  if h : d = 1#1 then do
    Prog.lift (.waitDma2 H.sem H.buf (rowA off (hoff h)) (View.wordExact_bits rfl) ((View.wordExact_bits rfl).reshape _ _))
    pure ⟨⟩
  else pure ⟨⟩

/-- A row's copy to the output array, issued. -/
def fire (i : grid0.Coords) (H : Half) (off : Fin 2 → ℕ) (hoff : ∀ a, off a + S1x16384.size a ≤ S1024x16384.size a) : TP F i PUnit := do
  Prog.lift (.enqueueDma H.buf (.here (rowA off hoff)) (.dma H.sem) (View.wordExact_bits rfl) ((View.wordExact_bits rfl).reshape _ _) ⟨Or.inl rfl, trivial⟩)
  pure ⟨⟩

/-- A row: the copy two rows back waited for, the tables, the half filled, the copy issued. -/
def row (i : grid0.Coords) {c : BitVec 1} (hc : c = 1#1) (H : Half) (d : BitVec 1) (w : BitVec 32)
    (off : Fin 2 → ℕ) (hoff : d = 1#1 → ∀ a, off a + S1x16384.size a ≤ S1024x16384.size a)
    (off' : Fin 2 → ℕ) (hoff' : ∀ a, off' a + S1x16384.size a ≤ S1024x16384.size a) : TP F i PUnit := do
  drain i H d off hoff
  let ws ← tables i hc w
  fill i hc H ws
  fire i H off' hoff'

theorem cond3_of_even (t : Fin k0_t1_loop.trips) (h : k0_cond1 t = 1#1) : ¬ k0_cond3 t = 1#1 := by decide +revert

theorem cond1_of_odd (t : Fin k0_t1_loop.trips) (h : k0_cond3 t = 1#1) : ¬ k0_cond1 t = 1#1 := by decide +revert

end Cert.Proof.Krao
-- ==== Proof.Base.lean ====
/-
  The launch's names and ghost state, what a tile's scratch buffer holds (`Holds`), and the rules of the short
  program text's steps: one for every gather, one for every store, one for a run of such steps.
-/
module

public import proofs.«01_k».proof.Proof.Text

@[expose] public section

noncomputable section

namespace Cert.Proof.Krao

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds beside the copies' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

theorem lane_lt (x : S16.Idx) : (x 0).val < 16 := (x 0).isLt

/-! ## A tile's thread -/

/-- The tile at grid coordinates `i`. -/
abbrev thr (d : Dev nD) (i : grid0.Coords) : Thread nD τ := V d ((i 0).castLE hcore0) ((i 1).castLE hsub0)

section Tile

variable [FloatOps F] (d : Dev nD) (i : grid0.Coords)

/-- A tile's program run to a postcondition. -/
abbrev WP {α : Type} (p : TP F i α) (Q : α → sProp 𝕄) : sProp 𝕄 :=
  wp frame (wpE (defs₀ (F := F)) 𝒱₀ (thr d i) none) Set.univ p Q

/-- The vector memory `m` held on the places `S`, its words `lo ≤ n < hi` being `G n`. -/
def Holds {n : ℕ} (m : Memref sig .scVector .vmem ⟨1, ![n]⟩ .f32) (S : Finset (Idx (m.view.loc (thr d i)))) (lo hi : ℕ) (G : ℕ → F .f32) : sProp 𝕄 :=
  iprop(∃ f : Buf (Elt F) (m.view.loc (thr d i)),
    ⌜∀ y : (⟨1, ![n]⟩ : Shape).Idx, lo ≤ (y 0).val → (y 0).val < hi → m.view.read (Elt F) f y = G (y 0).val⌝ ∗ (m.view.loc (thr d i) ↦[S]{fullShare} f))

/-- Any contents hold no words at all. -/
theorem holds_nil {n : ℕ} (m : Memref sig .scVector .vmem ⟨1, ![n]⟩ .f32) (S : Finset (Idx (m.view.loc (thr d i)))) (lo : ℕ) (G : ℕ → F .f32) :
    iprop(∃ f : Buf (Elt F) (m.view.loc (thr d i)), (m.view.loc (thr d i) ↦[S]{fullShare} f)) ⊢ (Holds d i m S lo lo G : sProp 𝕄) := by
  unfold Holds
  iintro ⟨%f, H⟩
  iexists f
  isplitr
  · ipureintro; intro y h1 h2; omega
  · iexact H

theorem holds_forget {n : ℕ} (m : Memref sig .scVector .vmem ⟨1, ![n]⟩ .f32) (S : Finset (Idx (m.view.loc (thr d i)))) (lo hi : ℕ) (G : ℕ → F .f32) :
    (Holds d i m S lo hi G : sProp 𝕄) ⊢ iprop(∃ f : Buf (Elt F) (m.view.loc (thr d i)), (m.view.loc (thr d i) ↦[S]{fullShare} f)) := by
  unfold Holds
  iintro ⟨%f, -, H⟩
  iexists f
  iexact H

/-- A gather from words that are known. -/
theorem wp_gat {c : BitVec 1} (hc : c = 1#1) {n : ℕ} {m : Memref sig .scVector .vmem ⟨1, ![n]⟩ .f32} {hl : m.view.Loads} {v : IVec S16 32}
    {S : Finset (Idx (m.view.loc (thr d i)))} {lo hi : ℕ} {G : ℕ → F .f32} (hS : m.view.set ⊆ S) (hn : hi ≤ n)
    (hv : ∀ x, lo ≤ (v x).toNat ∧ (v x).toNat < hi) {val : Vec F S16 .f32} (hval : ∀ x, val x = G (v x).toNat) {Q : Vec F S16 .f32 → sProp 𝕄} :
    (Holds d i m S lo hi G : sProp 𝕄) ⊢ iprop((Holds d i m S lo hi G -∗ Q val) -∗ WP d i (gat i hc m hl v) Q) := by
  have hin : Inside c n v := fun _ a x => by
    have : (v x).toNat < n := lt_of_lt_of_le (hv x).2 hn
    obtain rfl : a = 0 := Subsingleton.elim _ _
    exact this
  unfold WP Holds gat Prog.lift
  rw [Prog.bind_op, wp_assume_of _ _ _ _ hin, Prog.bind_ret]
  iintro ⟨%f, %hf, H⟩ HQ
  rw [← bind_pure (SparseCore.vectorLoadIdx _ _ _ _)]
  iapply (SparseCore.wp_vectorLoadIdx 𝒱₀ (thr d i) none Set.univ (S := S) (q := fullShare) (base := m) ?_) $$ H
  · refine (View.set_slice_subset _ _).trans hS
  iintro H
  rw [wp_pure]
  imodintro
  have e : loadIdx ((m.access (.whole ⟨1, ![n]⟩)).read (Elt F) f) ![v] (hin hc) = val := by
    funext x
    rw [hval]
    refine Eq.trans ?_ (hf (idxAt ![v] (hin hc) x) (hv x).1 (hv x).2)
    show m.view.read (Elt F) f ((Rect.whole ⟨1, ![n]⟩).emb _) = _
    congr 1
    exact Rect.emb_eq_of_coords _ _ _ fun a => by
      show _ = 0 + 1 * _
      rw [Nat.zero_add, Nat.one_mul]
  rw [e]
  iapply HQ
  iexists f
  isplitr
  · ipureintro; exact hf
  · iexact H

/-- A store of the next sixteen words. -/
theorem wp_put {n : ℕ} {m : Memref sig .scVector .vmem ⟨1, ![n]⟩ .f32} {off : Fin 1 → ℕ} {hoff : ∀ a, off a + S16.size a ≤ (⟨1, ![n]⟩ : Shape).size a}
    {w : Vec F S16 .f32} {S : Finset (Idx (m.view.loc (thr d i)))} {lo hi : ℕ} {G : ℕ → F .f32}
    (hS : ∀ y : (⟨1, ![n]⟩ : Shape).Idx, hi ≤ (y 0).val → (y 0).val < hi + 16 → m.view.emb y ∈ S) (ho : off 0 = hi) (hw : ∀ x : S16.Idx, w x = G (hi + (x 0).val))
    {Q : PUnit → sProp 𝕄} :
    (Holds d i m S lo hi G : sProp 𝕄) ⊢ iprop((Holds d i m S lo (hi + 16) G -∗ Q ⟨⟩) -∗ WP d i (put i m off hoff w) Q) := by
  have hS : (m.access (Rect.unit (s := ⟨1, ![n]⟩) off S16.size hoff)).set ⊆ S := fun z hz => by
    obtain ⟨x, -, rfl⟩ := Finset.mem_map.mp hz
    have hx := lane_lt x
    refine hS ((Rect.unit (s := ⟨1, ![n]⟩) off S16.size hoff).emb x) ?_ ?_
    · show hi ≤ off 0 + 1 * (x 0).val
      omega
    · show off 0 + 1 * (x 0).val < hi + 16
      omega
  unfold WP Holds put Prog.lift
  rw [Prog.bind_op]
  iintro ⟨%f, %hf, H⟩ HQ
  iapply (wp_load 𝒱₀ (thr d i) none Set.univ (m := m) (S := S) (q := fullShare) ?_) $$ H
  · refine Eq.trans_subset ?_ hS
    exact (View.set_slice _ _).symm
  iintro H
  rw [Prog.bind_ret]
  iapply (wp_store 𝒱₀ (thr d i) none Set.univ (m := m) (r := Rect.unit (s := ⟨1, ![n]⟩) off S16.size hoff) (Mk := Finset.univ) (S := S) hS) $$ H
  iintro H
  rw [wp_ret]
  imodintro
  iapply HQ
  iexists _
  isplitr [H]
  swap
  · iexact H
  ipureintro
  intro y h1 h2
  by_cases hy : y ∈ (Rect.unit (s := ⟨1, ![n]⟩) off S16.size hoff).set
  · obtain ⟨x, rfl⟩ := (Rect.unit (s := ⟨1, ![n]⟩) off S16.size hoff).exists_idx_of_mem hy
    refine (View.read_slice_write_emb _ _ _ (Finset.mem_univ x)).trans ((hw x).trans ?_)
    congr 1
    show hi + (x 0).val = off 0 + 1 * (x 0).val
    omega
  · refine (View.read_slice_write_of_not_mem _ _ _ _ (by rw [Rect.map_emb_univ]; exact hy)).trans (hf y h1 ?_)
    by_contra h3
    refine hy ((LoadRect.mem_set _).mpr fun a => ?_)
    obtain rfl : a = 0 := Subsingleton.elim _ _
    refine ⟨(y 0).val - hi, ?_, ?_⟩
    · show (y 0).val - hi < 16
      omega
    · show (y 0).val = off 0 + 1 * ((y 0).val - hi)
      omega

/-- A run of steps, each taking the invariant on by one. -/
theorem wp_collect {α : Type} : ∀ (n : ℕ) (f : Fin n → TP F i α) (I : ℕ → sProp 𝕄) (val : Fin n → α)
    (_ : ∀ (j : Fin n) (Q : α → sProp 𝕄), I j.val ⊢ iprop((I (j.val + 1) -∗ Q (val j)) -∗ WP d i (f j) Q)) (Q : (Fin n → α) → sProp 𝕄),
    I 0 ⊢ iprop((I n -∗ Q val) -∗ WP d i (collect n f) Q)
  | 0, f, I, val, _, Q => by
    unfold WP collect
    rw [wp_pure]
    iintro H HQ
    imodintro
    rw [show (Fin.elim0 : Fin 0 → α) = val from funext fun j => j.elim0]
    iapply HQ; iexact H
  | n + 1, f, I, val, h, Q => by
    have h0 (Q' : α → sProp 𝕄) : I 0 ⊢ iprop((I 1 -∗ Q' (val 0)) -∗ WP d i (f 0) Q') := h 0 Q'
    have h1 (Q' : (Fin n → α) → sProp 𝕄) := wp_collect n (fun j => f j.succ) (fun k => I (k + 1)) (fun j => val j.succ) (fun j Q => h j.succ Q) Q'
    unfold WP collect
    rw [wp_bind]
    iintro H HQ
    iapply (h0 _) $$ H
    iintro H
    rw [wp_bind]
    iapply (h1 _) $$ H
    iintro H
    rw [wp_pure]
    imodintro
    rw [show (Fin.cons (val 0) fun j => val j.succ : Fin (n + 1) → α) = val from Fin.cons_self_tail val]
    iapply HQ; iexact H

end Tile

end Cert.Proof.Krao
-- ==== Proof.Row.lean ====
/-
  One row of the result, computed: the six gathers, the two scratch tables, the sixteen right factors, and the
  sixteen thousand words of the half of the output buffer, each with its value.
-/
module

public import proofs.«01_k».proof.Proof.Base

@[expose] public section

noncomputable section

namespace Cert.Proof.Krao

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The values -/

/-- The product of two words. -/
abbrev mul2 (a b : F .f32) : F .f32 := FloatOps.mulf a b

/-- Row `b`, variables `p` and `q`: the product of word `l / 4` of the one and word `l % 4` of the other. -/
def pairV (X : ℕ → F .f32) (b p q l : ℕ) : F .f32 := mul2 (X (28 * b + 4 * p + l / 4)) (X (28 * b + 4 * q + l % 4))

/-- The middle pair's table, twice over. -/
def v34V (X : ℕ → F .f32) (b n : ℕ) : F .f32 := pairV X b 3 4 (n % 16)

/-- The left factors: variable 0 times the first pair. -/
def k012V (X : ℕ → F .f32) (b n : ℕ) : F .f32 := mul2 (X (28 * b + n / 16)) (pairV X b 1 2 (n % 16))

/-- The right factors: the middle pair times the last pair. -/
def wV (X : ℕ → F .f32) (b j l : ℕ) : F .f32 := mul2 (pairV X b 3 4 j) (pairV X b 5 6 l)

/-- Word `k` of row `b` of the result. -/
def outV (X : ℕ → F .f32) (b k : ℕ) : F .f32 := mul2 (k012V X b (k / 256)) (wV X b (k % 256 / 16) (k % 16))

/-- The right factors as the sixteen vectors the kernel keeps. -/
def wsV (X : ℕ → F .f32) (b : ℕ) : Fin 16 → FVec F S16 .f32 := fun j x => wV X b j.val (x 0).val

theorem v34V_at (X : ℕ → F .f32) (b j l : ℕ) (h : l < 16) : v34V X b (16 * j + l) = pairV X b 3 4 l := by
  rw [v34V, show (16 * j + l) % 16 = l by omega]

theorem k012V_at (X : ℕ → F .f32) (b j l : ℕ) (h : l < 16) : k012V X b (16 * j + l) = mul2 (X (28 * b + j)) (pairV X b 1 2 l) := by
  rw [k012V, show (16 * j + l) % 16 = l by omega, show (16 * j + l) / 16 = j by omega]

/-! ## The index words -/

omit [FloatOps F] in
theorem pay1_toNat (x : S16.Idx) : (k0_pay1 x).toNat = (x 0).val / 4 := by
  have h : ∀ n < 16, (IntOp.shrui .vector (BitVec.ofNat 32 (0 * 16 + n)) 2#32).toNat = n / 4 := by decide
  exact h _ (lane_lt x)

omit [FloatOps F] in
theorem pay2_toNat (x : S16.Idx) : (k0_pay2 x).toNat = (x 0).val % 4 := by
  have h : ∀ n < 16, (IntOp.andi (BitVec.ofNat 32 (0 * 16 + n)) 3#32).toNat = n % 4 := by decide
  exact h _ (lane_lt x)

omit [FloatOps F] in
theorem addi_toNat (a b : BitVec 32) (n k : ℕ) (ha : a.toNat = n) (hb : b.toNat = k) (h : n + k < 2 ^ 32) : (IntOp.addi a b).toNat = n + k := by
  unfold IntOp.addi
  rw [BitVec.toNat_add, ha, hb, Nat.mod_eq_of_lt h]

omit [FloatOps F] in
theorem ofNat_toNat (n : ℕ) (h : n < 2 ^ 32) : (BitVec.ofNat 32 n).toNat = n := by
  rw [BitVec.toNat_ofNat, Nat.mod_eq_of_lt h]

section Tile

variable (d : Dev nD) (i : grid0.Coords)

/-- The tile's copy of the whole input. -/
abbrev HX (X : ℕ → F .f32) : sProp 𝕄 := Holds d i xT Finset.univ 0 28672 X

theorem wp_pair {c : BitVec 1} (hc : c = 1#1) {w : BitVec 32} {b : ℕ} (hw : w.toNat = 28 * b) (hb : b < 1024) (p q : ℕ) (hp : p < 7) (hq : q < 7)
    {a a' : BitVec 32} (ha : a.toNat = 4 * p) (ha' : a'.toNat = 4 * q) (X : ℕ → F .f32) (Q : FVec F S16 .f32 → sProp 𝕄) :
    HX d i X ⊢ iprop((HX d i X -∗ Q (fun x => pairV X b p q (x 0).val)) -∗ WP d i (pair i hc w a a') Q) := by
  have e1 (x : S16.Idx) : ((addi (broadcast S16 (Scalar.addi w a)) k0_pay1 : IVec S16 32) x).toNat = 28 * b + 4 * p + (x 0).val / 4 := by
    have := lane_lt x
    exact addi_toNat _ _ _ _ (addi_toNat _ _ _ _ hw ha (by omega)) (pay1_toNat x) (by omega)
  have e2 (x : S16.Idx) : ((addi (broadcast S16 (Scalar.addi w a')) k0_pay2 : IVec S16 32) x).toNat = 28 * b + 4 * q + (x 0).val % 4 := by
    have := lane_lt x
    exact addi_toNat _ _ _ _ (addi_toNat _ _ _ _ hw ha' (by omega)) (pay2_toNat x) (by omega)
  unfold pair WP
  rw [wp_bind]
  iintro H HQ
  iapply (wp_gat d i hc (hl := View.loads_vmem h_S28672) (val := fun x => X (28 * b + 4 * p + (x 0).val / 4)) (Finset.subset_univ _) (le_refl _)
    (fun x => by have := lane_lt x; rw [e1]; omega) (fun x => by rw [e1])) $$ H
  iintro H
  rw [wp_bind]
  iapply (wp_gat d i hc (hl := View.loads_vmem h_S28672) (val := fun x => X (28 * b + 4 * q + (x 0).val % 4)) (Finset.subset_univ _) (le_refl _)
    (fun x => by have := lane_lt x; rw [e2]; omega) (fun x => by rw [e2])) $$ H
  iintro H
  rw [wp_pure]
  imodintro
  have e : (mulf (fun x => X (28 * b + 4 * p + (x 0).val / 4)) (fun x => X (28 * b + 4 * q + (x 0).val % 4)) : FVec F S16 .f32)
      = fun x => pairV X b p q (x 0).val := rfl
  rw [e]
  iapply HQ
  iexact H

theorem wp_tables {c : BitVec 1} (hc : c = 1#1) {w : BitVec 32} {b : ℕ} (hw : w.toNat = 28 * b) (hb : b < 1024) (X : ℕ → F .f32)
    (Q : (Fin 16 → FVec F S16 .f32) → sProp 𝕄) :
    iprop(HX d i X ∗ Holds d i v34T Finset.univ 0 0 (v34V X b) ∗ Holds d i k012T Finset.univ 0 0 (k012V X b))
      ⊢ iprop((HX d i X ∗ Holds d i v34T Finset.univ 0 32 (v34V X b) ∗ Holds d i k012T Finset.univ 0 64 (k012V X b) -∗ Q (wsV X b))
          -∗ WP d i (tables i hc w) Q) := by
  unfold tables WP
  rw [wp_bind]
  iintro ⟨HX, H34, H012⟩ HQ
  iapply (wp_pair d i hc hw hb 1 2 (by omega) (by omega) rfl rfl X _) $$ HX
  iintro HX
  rw [wp_bind]
  iapply (wp_pair d i hc hw hb 3 4 (by omega) (by omega) rfl rfl X _) $$ HX
  iintro HX
  rw [wp_bind]
  iapply (wp_pair d i hc hw hb 5 6 (by omega) (by omega) rfl rfl X _) $$ HX
  iintro HX
  rw [wp_bind]
  iapply (wp_collect d i 2 _ (fun k => Holds d i v34T Finset.univ 0 (16 * k) (v34V X b)) (fun _ => ⟨⟩) (fun j Q => ?_) _) $$ H34
  · refine wp_put d i (hi := 16 * j.val) (G := v34V X b) (w := fun x => pairV X b 3 4 (x 0).val) (fun _ _ _ => Finset.mem_univ _) rfl fun x => ?_
    show pairV X b 3 4 (x 0).val = _
    rw [v34V_at X b j.val _ (lane_lt x)]
  iintro H34
  rw [wp_bind]
  iapply (wp_collect d i 16 _ (fun _ => Holds d i v34T Finset.univ 0 32 (v34V X b)) (wsV X b) (fun j Q => ?_) _) $$ H34
  · rw [WP, wp_bind]
    have ej : (BitVec.ofNat 32 (16 + j.val)).toNat = 16 + j.val := ofNat_toNat _ (by omega)
    iintro H HQ
    iapply (wp_gat d i hc (hl := View.loads_vmem h_S32) (val := fun _ => pairV X b 3 4 j.val) (Finset.subset_univ _) (le_refl _)
      (fun x => by show _ ≤ (BitVec.ofNat 32 (16 + j.val)).toNat ∧ (BitVec.ofNat 32 (16 + j.val)).toNat < _; rw [ej]; omega)
      (fun x => by
        show _ = v34V X b (BitVec.ofNat 32 (16 + j.val)).toNat
        rw [ej]; exact (v34V_at X b 1 j.val j.isLt).symm)) $$ H
    iintro H
    rw [wp_pure]
    imodintro
    have e : (mulf (fun _ => pairV X b 3 4 j.val) (fun x => pairV X b 5 6 (x 0).val) : FVec F S16 .f32) = wsV X b j := rfl
    rw [e]
    iapply HQ
    iexact H
  iintro H34
  rw [wp_bind]
  ihave HI : iprop(HX d i X ∗ Holds d i k012T Finset.univ 0 (16 * 0) (k012V X b)) $$ [HX H012]
  · isplitl [HX] <;> iassumption
  iapply (wp_collect d i 4 _ (fun k => iprop(HX d i X ∗ Holds d i k012T Finset.univ 0 (16 * k) (k012V X b))) (fun _ => ⟨⟩) (fun j Q => ?_) _) $$ HI
  · rw [WP, wp_bind]
    have ej : (IntOp.addi w (BitVec.ofNat 32 j.val)).toNat = 28 * b + j.val := addi_toNat _ _ _ _ hw (ofNat_toNat _ (by omega)) (by omega)
    iintro ⟨HX, H⟩ HQ
    iapply (wp_gat d i hc (hl := View.loads_vmem h_S28672) (val := fun _ => X (28 * b + j.val)) (Finset.subset_univ _) (le_refl _)
      (fun x => by show _ ≤ (IntOp.addi w (BitVec.ofNat 32 j.val)).toNat ∧ (IntOp.addi w (BitVec.ofNat 32 j.val)).toNat < _; rw [ej]; omega)
      (fun x => by show _ = X (IntOp.addi w (BitVec.ofNat 32 j.val)).toNat; rw [ej])) $$ HX
    iintro HX
    iapply (wp_put d i (hi := 16 * j.val) (G := k012V X b) (fun _ _ _ => Finset.mem_univ _) rfl (fun x => ?_)) $$ H
    · show mul2 (X (28 * b + j.val)) (pairV X b 1 2 (x 0).val) = _
      rw [k012V_at X b j.val _ (lane_lt x)]
    iintro H
    iapply HQ
    isplitl [HX] <;> iassumption
  iintro ⟨HX, H012⟩
  rw [wp_pure]
  imodintro
  iapply HQ
  isplitl [HX]; · iexact HX
  isplitl [H34] <;> iassumption

end Tile

/-! ## The half -/

/-- The half's words lie trip by trip, sixteen at a time. -/
def Half.Lays (H : Half) : Prop := ∀ (u : Fin k0_t2_loop.trips) (r : Fin 16), H.off u (BitVec.ofNat 32 (16 * r.val)) 0 = H.base 0 + 256 * u.val + 16 * r.val

theorem half0_lays : half0.Lays := fun u r => by
  show k0_off2 u (BitVec.ofNat 32 (16 * r.val)) 0 = 0 + 256 * u.val + 16 * r.val
  rw [k0_off2_eq]
  show 256 * u.val + 16 * r.val = _
  omega

theorem half1_lays : half1.Lays := fun u r => by
  show k0_off5 u (BitVec.ofNat 32 (16 * r.val)) 0 = 16384 + 256 * u.val + 16 * r.val
  rw [k0_off5_eq]
  first | rfl | (show 256 * u.val + 16 * r.val + 16384 = _; omega)

theorem mem_half (H : Half) (y : S32768.Idx) (h1 : H.base 0 ≤ (y 0).val) (h2 : (y 0).val < H.base 0 + 16384) : oT.view.emb y ∈ H.buf.view.set := by
  refine (show oT.view.emb y ∈ (oT.view.slice (Rect.unit (s := S32768) H.base S16384.size H.base_in)).set from ?_)
  rw [View.set_slice]
  refine Finset.mem_map_of_mem _ ((LoadRect.mem_set _).mpr fun a => ?_)
  obtain rfl : a = 0 := Subsingleton.elim _ _
  refine ⟨(y 0).val - H.base 0, ?_, ?_⟩
  · show (y 0).val - H.base 0 < 16384
    omega
  · show (y 0).val = H.base 0 + 1 * ((y 0).val - H.base 0)
    omega

theorem outV_at (X : ℕ → F .f32) (b u j l : ℕ) (hj : j < 16) (hl : l < 16) : outV X b (256 * u + 16 * j + l) = mul2 (k012V X b u) (wV X b j l) := by
  rw [outV, show (256 * u + 16 * j + l) / 256 = u by omega, show (256 * u + 16 * j + l) % 256 / 16 = j by omega,
    show (256 * u + 16 * j + l) % 16 = l by omega]

theorem iv_toNat (u : Fin k0_t2_loop.trips) : (Scf.iv 0#32 1#32 u : BitVec 32).toNat = u.val := by
  decide +revert

/-- The half's first `n` words. -/
abbrev HO (d : Dev nD) (i : grid0.Coords) (H : Half) (X : ℕ → F .f32) (b n : ℕ) : sProp 𝕄 :=
  Holds d i oT H.buf.view.set (H.base 0) (H.base 0 + n) fun k => outV X b (k - H.base 0)

section Tile

variable (d : Dev nD) (i : grid0.Coords)

theorem wp_fillTrip {c : BitVec 1} (hc : c = 1#1) {H : Half} (hH : H.Lays) (X : ℕ → F .f32) (b : ℕ) (u : Fin k0_t2_loop.trips) (Q : PUnit → sProp 𝕄) :
    iprop(Holds d i k012T Finset.univ 0 64 (k012V X b) ∗ HO d i H X b (256 * u.val))
      ⊢ iprop((Holds d i k012T Finset.univ 0 64 (k012V X b) ∗ HO d i H X b (256 * (u.val + 1)) -∗ Q ⟨⟩) -∗ WP d i (fillTrip i hc H (wsV X b) u) Q) := by
  have hu : u.val < 64 := lt_of_lt_of_le u.isLt k0_t2_abs.2.1
  unfold fillTrip WP
  rw [wp_bind]
  iintro ⟨H012, HO⟩ HQ
  iapply (wp_gat d i hc (hl := View.loads_vmem h_S64) (val := fun _ => k012V X b u.val) (Finset.subset_univ _) (le_refl _)
    (fun x => by show _ ≤ (Scf.iv 0#32 1#32 u : BitVec 32).toNat ∧ (Scf.iv 0#32 1#32 u : BitVec 32).toNat < _; rw [iv_toNat]; omega)
    (fun x => by show _ = k012V X b (Scf.iv 0#32 1#32 u : BitVec 32).toNat; rw [iv_toNat])) $$ H012
  iintro H012
  rw [wp_bind]
  have e0 : 256 * u.val = 256 * u.val + 16 * 0 := rfl
  rw [e0]
  iapply (wp_collect d i 16 _ (fun k => HO d i H X b (256 * u.val + 16 * k)) (fun _ => ⟨⟩) (fun j Q => ?_) _) $$ HO
  · refine wp_put d i (hi := H.base 0 + (256 * u.val + 16 * j.val)) (G := fun k => outV X b (k - H.base 0))
      (fun y h1 h2 => mem_half H y ?_ ?_) ?_ fun x => ?_
    · omega
    · have := H.base_in 0; have := j.isLt; omega
    · rw [hH u j]; omega
    · have e : H.base 0 + (256 * u.val + 16 * j.val) + (x 0).val - H.base 0 = 256 * u.val + 16 * j.val + (x 0).val := by omega
      show mul2 (k012V X b u.val) (wV X b j.val (x 0).val) = _
      rw [e, outV_at X b u.val j.val _ j.isLt (lane_lt x)]
  iintro HO
  rw [wp_pure]
  imodintro
  iapply HQ
  isplitl [H012]; · iexact H012
  iexact HO

theorem wp_fill {c : BitVec 1} (hc : c = 1#1) {H : Half} (hH : H.Lays) (X : ℕ → F .f32) (b : ℕ) (Q : PUnit → sProp 𝕄) :
    iprop(Holds d i k012T Finset.univ 0 64 (k012V X b) ∗ HO d i H X b 0)
      ⊢ iprop((Holds d i k012T Finset.univ 0 64 (k012V X b) ∗ HO d i H X b 16384 -∗ Q ⟨⟩) -∗ WP d i (fill i hc H (wsV X b)) Q) := by
  unfold fill WP
  iintro HH HQ
  iapply (Scf.wp_for_bind frame (wpE (defs₀ (F := F)) 𝒱₀ (thr d i) none) Set.univ _ _ _ _ _ _
    (fun k _ => iprop(Holds d i k012T Finset.univ 0 64 (k012V X b) ∗ HO d i H X b (256 * k))) (fun u a => ?_)) $$ HH
  · rw [wp_bind]
    iintro HH
    iapply (wp_fillTrip d i hc hH X b u _) $$ HH
    iintro HH
    rw [wp_pure]
    imodintro
    iexact HH
  iintro %acc HH
  rw [wp_pure]
  imodintro
  iapply HQ
  iexact HH

end Tile

end Cert.Proof.Krao
-- ==== Proof.Copies.lean ====
/-
  A tile's copies: the rows of the output array, a half's copy in flight (`Slot`), the wait for it and its issue.
-/
module

public import proofs.«01_k».proof.Proof.Row

@[expose] public section

noncomputable section

namespace Cert.Proof.Krao

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 1) (Elt F) ℕ UU ℕ

/-! ## Bands of rows -/

/-- The output array's rows from `lo` to `hi`. -/
def band (lo hi : ℕ) : Finset S1024x16384.Idx := Finset.univ.filter fun z => lo ≤ (z 0).val ∧ (z 0).val < hi

theorem mem_band {lo hi : ℕ} {z : S1024x16384.Idx} : z ∈ band lo hi ↔ lo ≤ (z 0).val ∧ (z 0).val < hi := by
  unfold band; rw [Finset.mem_filter]; exact ⟨fun h => h.2, fun h => ⟨Finset.mem_univ _, h⟩⟩

theorem band_split {a b c : ℕ} (h1 : a ≤ b) (h2 : b ≤ c) : band a c = band a b ∪ band b c := by
  ext z; rw [Finset.mem_union, mem_band, mem_band, mem_band]; omega

theorem band_disjoint (a b b' c : ℕ) (h : b ≤ b') : Disjoint (band a b) (band b' c) := by
  rw [Finset.disjoint_left]; intro z h1 h2; rw [mem_band] at h1 h2; omega

theorem band_empty (a : ℕ) : band a a = ∅ := by
  ext z; rw [mem_band]; simp only [Finset.notMem_empty, iff_false]; omega

theorem rowA_set {off : Fin 2 → ℕ} {h : ∀ a, off a + S1x16384.size a ≤ S1024x16384.size a} {b : ℕ} (ho : off = ![b, 0]) :
    ((rowA off h).view.set : Finset S1024x16384.Idx) = band b (b + 1) := by
  subst ho
  show (((oA.view).slice (Rect.unit (s := S1024x16384) ![b, 0] S1x16384.size h)).reshape S16384 squeezes_S1x16384_S16384.numel_eq).set = _
  rw [View.set_reshape]
  refine (View.set_slice_whole _ _).trans ?_
  ext z
  rw [mem_band]
  refine (LoadRect.mem_set (r := (Rect.unit (s := S1024x16384) ![b, 0] S1x16384.size h).toLoadRect) (i := z)).trans ⟨fun hz => ?_, fun hz a => ?_⟩
  · obtain ⟨j, hj, e⟩ := hz 0
    have hj : j < 1 := hj
    have e : (z 0).val = b + 1 * j := e
    omega
  · match a with
    | 0 => exact ⟨0, Nat.one_pos, show (z 0).val = b + 1 * 0 by omega⟩
    | 1 => exact ⟨(z 1).val, (z 1).isLt, show (z 1).val = 0 + 1 * (z 1).val by omega⟩

theorem rowA_emb {off : Fin 2 → ℕ} {h : ∀ a, off a + S1x16384.size a ≤ S1024x16384.size a} {b : ℕ} (ho : off = ![b, 0]) (y : S16384.Idx) :
    (((rowA off h).view.emb y : S1024x16384.Idx) 0).val = b ∧ (((rowA off h).view.emb y : S1024x16384.Idx) 1).val = (y 0).val := by
  subst ho
  have e : (rowA ![b, 0] h).view.emb y = (Rect.unit (s := S1024x16384) ![b, 0] S1x16384.size h).emb (Fin.cons ⟨0, Nat.one_pos⟩ y) := by
    show (Rect.unit (s := S1024x16384) ![b, 0] S1x16384.size h).emb (Shape.reshapeEquiv _ y) = _
    rw [Shape.reshapeEquiv_cons_one]
  rw [e]
  exact ⟨show b + 1 * 0 = b by omega, show 0 + 1 * (y 0).val = (y 0).val by omega⟩

/-- Row `b`, word `k` of the result. -/
def outF (X : ℕ → F .f32) : S1024x16384.Idx → F .f32 := fun z => outV X (z 0).val (z 1).val

/-- What a row's copy credits. -/
def rowN : ℕ := (rowA ![0, 0] (by decide)).view.dmaCredit

section Tile

variable (d : Dev nD) (i : grid0.Coords)

/-- A band of the output array at contents `g`. -/
abbrev Rows (g : S1024x16384.Idx → F .f32) (lo hi : ℕ) : sProp 𝕄 :=
  ((oA.view.loc (thr d i)) ↦[(band lo hi : Finset S1024x16384.Idx)]{fullShare} (g : Buf (Elt F) (oA.view.loc (thr d i))))

/-- A half, at some contents. -/
abbrev Freed (H : Half) : sProp 𝕄 := iprop(∃ f : Buf (Elt F) (oT.view.loc (thr d i)), (oT.view.loc (thr d i) ↦[H.buf.view.set]{fullShare} f))

/-- A half idle (`0`), or its copy to row `b₀ + n` in flight (`n + 1`). -/
def Slot (H : Half) (X : ℕ → F .f32) (b₀ : ℕ) : ℕ → sProp 𝕄
  | 0 => iprop(Freed d i H ∗ semVal (thr d i, .dma H.sem) 0)
  | n + 1 => Flight countersEmb (thr d i) (.dma H.sem) none rowN iprop(Rows d i (outF X) (b₀ + n) (b₀ + n + 1) ∗ Freed d i H)

/-- What the tile owes, its waits recorded. -/
abbrev Own (O : CellTallies nD τ sig (HIx 1)) (W : Waits sig (HIx 1)) : sProp 𝕄 :=
  iprop(∃ W', ⌜∀ p ∈ W', p ∈ W ∨ p.2 = none⌝ ∗ owes (thr d i) O W')

omit [FloatOps F] in
theorem own_insert {O : CellTallies nD τ sig (HIx 1)} {W W' : Waits sig (HIx 1)} (h : ∀ p ∈ W', p ∈ W ∨ p.2 = none) (s : SemLoc sig) :
    (owes (thr d i) O (insert (s, none) W') : sProp 𝕄) ⊢ Own d i O W := by
  iintro H
  iexists _
  isplitr [H]
  swap
  · iexact H
  ipureintro
  intro p hp
  rcases Finset.mem_insert.mp hp with rfl | hp
  · exact .inr rfl
  · exact h p hp

theorem wp_await {H : Half} {X : ℕ → F .f32} {b₀ n : ℕ} {off : Fin 2 → ℕ} {hoff : ∀ a, off a + S1x16384.size a ≤ S1024x16384.size a}
    {p₁ p₂} {O : CellTallies nD τ sig (HIx 1)} {W : Waits sig (HIx 1)} {α : Type} {k : PUnit → TP F i α} {Q : α → sProp 𝕄} :
    iprop(MayWaits (thr d i) none O ∗ Slot d i H X b₀ (n + 1) ∗ Own d i O W)
      ⊢ iprop((Slot d i H X b₀ 0 ∗ Rows d i (outF X) (b₀ + n) (b₀ + n + 1) ∗ Own d i O W -∗ WP d i (k ⟨⟩) Q)
          -∗ WP d i (.op (.waitDma2 H.sem H.buf (rowA off hoff) p₁ p₂) k) Q) := by
  unfold WP Slot
  iintro ⟨#Hm, Hf, ⟨%W', %hW, HO⟩⟩ HQ
  iapply (wp_waitLocalO countersEmb 𝒱₀ (thr d i) none none (show (rowA off hoff).view.dmaCredit = rowN from rfl)) $$ [Hf HO]
  · isplitl [Hf]; · iexact Hf
    isplitl [HO]; · iexact HO
    iapply (MayWaits.elim (SemLoc.dma H.sem)) $$ Hm
  iintro ⟨⟨HR, HF⟩, Hs, HO⟩
  iapply HQ
  isplitl [HF Hs]
  · isplitl [HF]; · iexact HF
    iexact Hs
  isplitl [HR]; · iexact HR
  iapply (own_insert d i hW _) $$ HO

theorem wp_fire {H : Half} {X : ℕ → F .f32} {b₀ n b : ℕ} (hb : b = b₀ + n) {off : Fin 2 → ℕ} {hoff : ∀ a, off a + S1x16384.size a ≤ S1024x16384.size a}
    (ho : off = ![b, 0]) {g : S1024x16384.Idx → F .f32} {Q : PUnit → sProp 𝕄} :
    iprop(HO d i H X b 16384 ∗ Rows d i g b (b + 1) ∗ semVal (thr d i, .dma H.sem) 0)
      ⊢ iprop((Slot d i H X b₀ (n + 1) -∗ Q ⟨⟩) -∗ WP d i (fire i H off hoff) Q) := by
  unfold WP Slot fire HO Holds Prog.lift
  rw [Prog.bind_op]
  iintro ⟨⟨%f, %hf, Hf⟩, HR, Hs⟩ HQ
  iapply (wp_dmaLocal countersEmb 𝒱₀ (thr d i) none (src := H.buf) (dst := rowA off hoff) (Sd := (band b (b + 1) : Finset S1024x16384.Idx)) (fd := g) none rowN
    ?_ ?_ ?_) $$ [Hf HR Hs]
  · rfl
  · exact View.dmaCredit_pos _ (show 0 < S16384.numel by decide)
  · exact (rowA_set ho).subset
  · isplitl [Hf]; · iexact Hf
    isplitl [HR]; · iexact HR
    iexact Hs
  iintro HF
  rw [Prog.bind_ret, wp_pure]
  imodintro
  iapply HQ
  iapply (Flight_mono countersEmb (thr d i) ?_) $$ HF
  subst hb
  iintro ⟨HR, Hf⟩
  isplitl [HR]
  swap
  · iexists _; iexact Hf
  iapply (Entails.of_eq (pointsTo_congr ?_)) $$ HR
  intro z hz
  have hz' : z ∈ (rowA off hoff).view.set := (rowA_set ho) ▸ hz
  obtain ⟨y, -, rfl⟩ := Finset.mem_map.mp hz'
  rw [View.write_emb_of_mem _ _ (Finset.mem_univ y)]
  obtain ⟨e0, e1⟩ := rowA_emb (h := hoff) ho y
  have hy : (y 0).val < 16384 := (y 0).isLt
  show oT.view.read (Elt F) f ((Rect.unit (s := S32768) H.base S16384.size H.base_in).emb y) = outV X _ _
  have ec : (((Rect.unit (s := S32768) H.base S16384.size H.base_in).emb y) 0).val = H.base 0 + (y 0).val := by
    show H.base 0 + 1 * (y 0).val = _
    omega
  rw [hf _ (by omega) (by omega)]
  show outV X (b₀ + n) (_ - H.base 0) = _
  rw [ec, e0, e1, Nat.add_sub_cancel_left]

end Tile

end Cert.Proof.Krao
-- ==== Proof.Same.lean ====
/-
  The printed body is the short text (Text.lean): both sides written out as trees of effects, then compared.
-/
module

public import proofs.«01_k».proof.Proof.Text

@[expose] public section
noncomputable section
namespace Cert.Proof.Krao
open Cert.KernelIdeal Cert.KernelIdeal.Gen
open Idealize.ShloMosaic Idealize.SL.Sem
variable {F : FTy → Type} [FloatOps F]

set_option maxRecDepth 65536 in
/-- Even trips: the printed inner loop's region stores as `fillTrip` does. -/
theorem k0_t2_body_eq (i : grid0.Coords) (t : Fin k0_t1_loop.trips) (h : k0_cond1 t = 1#1) (v52 : BitVec 32)
    (v61 v79 v84 v87 v90 v93 v96 v99 v102 v105 v108 v111 v114 v117 v120 : FVec F S16 .f32) (v121 : IVec S16 32) (v122 v125 v128 : FVec F S16 .f32) :
    k0_t2_body (F := F) i xA (Memref.isWhole_whole _) oA (Memref.isWhole_whole _) xT (Memref.isWhole_whole _) v34T (Memref.isWhole_whole _)
      k012T (Memref.isWhole_whole _) oT (Memref.isWhole_whole _) cc0_scratch4 cc0_scratch5 cc0_scoped0 t h v52 v61 v79 v84 v87 v90 v93 v96 v99 v102
      v105 v108 v111 v114 v117 v120 v121 v122 v125 v128
      = fun u _ => fillTrip i h half0 ![v84, v87, v90, v93, v96, v99, v102, v105, v108, v111, v114, v117, v120, mulf v122 v79, mulf v125 v79, mulf v128 v79] u
          >>= fun _ => pure 0#32 := by
  funext u a
  unfold k0_t2_body fillTrip
  rw [k0_part1_eq_skeleton]
  unfold k0_part1_skel
  simp only [collect, gat, put, Prog.lift, Prog.bind_op, Prog.bind_ret, Prog.pure_eq_ret, Prog.bind_assoc, SparseCore.vectorLoadIdx]
  rfl

set_option maxRecDepth 65536 in
set_option maxHeartbeats 1000000 in
/-- Even trips: the printed outer loop's region is the row at `half0`. -/
theorem trip_half0 (i : grid0.Coords) (v2 : BitVec 32) (t : Fin k0_t1_loop.trips) (a : BitVec 32) (h : k0_cond1 t = 1#1) :
    k0_t1_body (F := F) i xA (Memref.isWhole_whole _) oA (Memref.isWhole_whole _) xT (Memref.isWhole_whole _) v34T (Memref.isWhole_whole _)
      k012T (Memref.isWhole_whole _) oT (Memref.isWhole_whole _) cc0_scratch4 cc0_scratch5 cc0_scoped0 v2 t a
      = row i h half0 (k0_cond2 t) (Scalar.muli (Scalar.addi v2 (Scf.iv 0#32 1#32 t)) 28#32)
          (k0_off1 i) (fun h2 => k0_off1_inb i t h h2) (k0_off3 i t) (k0_off3_inb i t h) >>= fun _ => pure 0#32 := by
  unfold k0_t1_body row drain tables pair fill fire
  simp only []
  rw [dif_pos h, dif_neg (cond3_of_even t h), k0_part2_eq_skeleton, k0_part3_eq_skeleton, k0_part4_eq_skeleton]
  unfold k0_part2_skel k0_part3_skel k0_part4_skel
  by_cases h2 : k0_cond2 t = 1#1
  · rw [dif_pos h2, dif_pos h2]
    simp only [collect, gat, put, Prog.lift, Prog.bind_op, Prog.bind_ret, Prog.pure_eq_ret, Prog.bind_assoc, SparseCore.vectorLoadIdx, k0_t2_body_eq]
    rfl
  · rw [dif_neg h2, dif_neg h2]
    simp only [collect, gat, put, Prog.lift, Prog.bind_op, Prog.bind_ret, Prog.pure_eq_ret, Prog.bind_assoc, SparseCore.vectorLoadIdx, k0_t2_body_eq]
    rfl

set_option maxRecDepth 65536 in
/-- Odd trips: the printed inner loop's region stores as `fillTrip` does. -/
theorem k0_t3_body_eq (i : grid0.Coords) (t : Fin k0_t1_loop.trips) (h : k0_cond3 t = 1#1) (v52 : BitVec 32)
    (v61 v79 v84 v87 v90 v93 v96 v99 v102 v105 v108 v111 v114 v117 v120 : FVec F S16 .f32) (v121 : IVec S16 32) (v122 v125 v128 : FVec F S16 .f32) :
    k0_t3_body (F := F) i xA (Memref.isWhole_whole _) oA (Memref.isWhole_whole _) xT (Memref.isWhole_whole _) v34T (Memref.isWhole_whole _)
      k012T (Memref.isWhole_whole _) oT (Memref.isWhole_whole _) cc0_scratch4 cc0_scratch5 cc0_scoped0 t h v52 v61 v79 v84 v87 v90 v93 v96 v99 v102
      v105 v108 v111 v114 v117 v120 v121 v122 v125 v128
      = fun u _ => fillTrip i h half1 ![v84, v87, v90, v93, v96, v99, v102, v105, v108, v111, v114, v117, v120, mulf v122 v79, mulf v125 v79, mulf v128 v79] u
          >>= fun _ => pure 0#32 := by
  funext u a
  unfold k0_t3_body fillTrip
  rw [k0_part5_eq_skeleton]
  unfold k0_part5_skel
  simp only [collect, gat, put, Prog.lift, Prog.bind_op, Prog.bind_ret, Prog.pure_eq_ret, Prog.bind_assoc, SparseCore.vectorLoadIdx]
  rfl

set_option maxRecDepth 65536 in
set_option maxHeartbeats 1000000 in
/-- Odd trips: the printed outer loop's region is the row at `half1`. -/
theorem trip_half1 (i : grid0.Coords) (v2 : BitVec 32) (t : Fin k0_t1_loop.trips) (a : BitVec 32) (h : k0_cond3 t = 1#1) :
    k0_t1_body (F := F) i xA (Memref.isWhole_whole _) oA (Memref.isWhole_whole _) xT (Memref.isWhole_whole _) v34T (Memref.isWhole_whole _)
      k012T (Memref.isWhole_whole _) oT (Memref.isWhole_whole _) cc0_scratch4 cc0_scratch5 cc0_scoped0 v2 t a
      = row i h half1 (k0_cond4 t) (Scalar.muli (Scalar.addi v2 (Scf.iv 0#32 1#32 t)) 28#32)
          (k0_off4 i) (fun h2 => k0_off4_inb i t h h2) (k0_off6 i t) (k0_off6_inb i t h) >>= fun _ => pure 0#32 := by
  unfold k0_t1_body row drain tables pair fill fire
  simp only []
  rw [dif_neg (cond1_of_odd t h), dif_pos h, k0_part6_eq_skeleton, k0_part7_eq_skeleton, k0_part8_eq_skeleton]
  unfold k0_part6_skel k0_part7_skel k0_part8_skel
  by_cases h2 : k0_cond4 t = 1#1
  · rw [dif_pos h2, dif_pos h2]
    simp only [collect, gat, put, Prog.lift, Prog.bind_op, Prog.bind_ret, Prog.pure_eq_ret, Prog.bind_assoc, SparseCore.vectorLoadIdx, k0_t3_body_eq]
    rfl
  · rw [dif_neg h2, dif_neg h2]
    simp only [collect, gat, put, Prog.lift, Prog.bind_op, Prog.bind_ret, Prog.pure_eq_ret, Prog.bind_assoc, SparseCore.vectorLoadIdx, k0_t3_body_eq]
    rfl

end Cert.Proof.Krao
-- ==== Proof.Tile.lean ====
/-
  A tile's loop: one row, and one trip of the outer loop with the two halves in flight.
-/
module

public import proofs.«01_k».proof.Proof.Copies
public import proofs.«01_k».proof.Proof.Same

@[expose] public section

noncomputable section

namespace Cert.Proof.Krao

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 1) (Elt F) ℕ UU ℕ

/-! ## Trip by trip -/

/-- The first row of a tile. -/
def base (i : grid0.Coords) : ℕ := 64 * (i 1).val + 32 * (i 0).val

theorem base_le (i : grid0.Coords) : base i + 32 ≤ 1024 := by
  have h0 : (i 0).val < 2 := (i 0).isLt
  have h1 : (i 1).val < 16 := (i 1).isLt
  unfold base; omega

/-- The half of row `n`. -/
def halfOf (n : ℕ) : Half := if n % 2 = 0 then half0 else half1

theorem halfOf_add_two (n : ℕ) : halfOf (n + 1 + 1) = halfOf n := by
  unfold halfOf; rw [show (n + 1 + 1) % 2 = n % 2 by omega]

theorem trips_lt (t : Fin k0_t1_loop.trips) : t.val < 32 := lt_of_lt_of_le t.isLt k0_t1_abs.2.1

theorem trips_eq : k0_t1_loop.trips = 32 := by decide

theorem even_or_odd (t : Fin k0_t1_loop.trips) : (k0_cond1 t = 1#1 ∧ t.val % 2 = 0) ∨ (k0_cond3 t = 1#1 ∧ t.val % 2 = 1) := by decide +revert

theorem cond2_iff (t : Fin k0_t1_loop.trips) : k0_cond2 t = 1#1 ↔ 2 ≤ t.val := by decide +revert

theorem cond4_iff (t : Fin k0_t1_loop.trips) : k0_cond4 t = 1#1 ↔ 2 ≤ t.val := by decide +revert

theorem iv1_toNat (t : Fin k0_t1_loop.trips) : (Scf.iv 0#32 1#32 t : BitVec 32).toNat = t.val := by decide +revert

/-- The tile's first row as the body computes it. -/
abbrev baseW (i : grid0.Coords) : BitVec 32 :=
  Scalar.muli (Scalar.addi (Scalar.muli (BitVec.ofNat 32 (i 1).val) 2#32) (BitVec.ofNat 32 (i 0).val)) 32#32

theorem word_toNat (i : grid0.Coords) (t : Fin k0_t1_loop.trips) :
    (Scalar.muli (Scalar.addi (baseW i) (Scf.iv 0#32 1#32 t)) 28#32 : BitVec 32).toNat = 28 * (base i + t.val) := by
  have h0 : (i 0).val < 2 := (i 0).isLt
  have h1 : (i 1).val < 16 := (i 1).isLt
  have ht := trips_lt t
  show (((BitVec.ofNat 32 (i 1).val * 2#32 + BitVec.ofNat 32 (i 0).val) * 32#32 + Scf.iv 0#32 1#32 t) * 28#32 : BitVec 32).toNat = _
  simp only [BitVec.toNat_mul, BitVec.toNat_add, BitVec.toNat_ofNat, iv1_toNat]
  unfold base
  omega

section Tile

variable (d : Dev nD) (i : grid0.Coords)

/-- A scratch table at some contents. -/
abbrev Tab {n : ℕ} (m : Memref sig .scVector .vmem ⟨1, ![n]⟩ .f32) : sProp 𝕄 :=
  iprop(∃ f : Buf (Elt F) (m.view.loc (thr d i)), (m.view.loc (thr d i) ↦[Finset.univ]{fullShare} f))

theorem rows_split (g : S1024x16384.Idx → F .f32) {a b c : ℕ} (h1 : a ≤ b) (h2 : b ≤ c) :
    (Rows d i g a c : sProp 𝕄) ⊢ iprop(Rows d i g a b ∗ Rows d i g b c) := by
  unfold Rows
  rw [band_split h1 h2]
  exact (pointsTo_union (band_disjoint _ _ _ _ (le_refl _))).1

theorem rows_join (g : S1024x16384.Idx → F .f32) {a b c : ℕ} (h1 : a ≤ b) (h2 : b ≤ c) :
    iprop(Rows d i g a b ∗ Rows d i g b c) ⊢ (Rows d i g a c : sProp 𝕄) := by
  unfold Rows
  rw [band_split h1 h2]
  exact (pointsTo_union (band_disjoint _ _ _ _ (le_refl _))).2

theorem slot_zero (H : Half) (X : ℕ → F .f32) (b₀ : ℕ) :
    (Slot d i H X b₀ 0 : sProp 𝕄) = iprop(Freed d i H ∗ semVal (thr d i, .dma H.sem) 0) := rfl

theorem wp_drain {H : Half} {X : ℕ → F .f32} {b₀ n : ℕ} {c : BitVec 1} (hc : c = 1#1 ↔ 2 ≤ n) {off : Fin 2 → ℕ}
    {hoff : c = 1#1 → ∀ a, off a + S1x16384.size a ≤ S1024x16384.size a}
    {O : CellTallies nD τ sig (HIx 1)} {W : Waits sig (HIx 1)} {Q : PUnit → sProp 𝕄} :
    iprop(MayWaits (thr d i) none O ∗ Slot d i H X b₀ (n - 1) ∗ Rows d i (outF X) b₀ (b₀ + (n - 2)) ∗ Own d i O W)
      ⊢ iprop((Slot d i H X b₀ 0 ∗ Rows d i (outF X) b₀ (b₀ + (n + 1 - 2)) ∗ Own d i O W -∗ Q ⟨⟩) -∗ WP d i (drain i H c off hoff) Q) := by
  unfold drain
  by_cases h : c = 1#1
  · obtain ⟨k, rfl⟩ : ∃ k, n = k + 2 := ⟨n - 2, by have := hc.mp h; omega⟩
    rw [dif_pos h, show k + 2 - 1 = k + 1 from rfl, show k + 2 - 2 = k from rfl, show k + 2 + 1 - 2 = k + 1 from rfl]
    unfold WP Prog.lift
    rw [Prog.bind_op]
    iintro ⟨#Hm, Hs, HR, HO⟩ HQ
    iapply (wp_await d i) $$ [Hs HO]
    · isplitr; · iexact Hm
      isplitl [Hs]; · iexact Hs
      iexact HO
    iintro ⟨Hs, HR', HO⟩
    rw [Prog.bind_ret, WP, wp_pure]
    imodintro
    iapply HQ
    isplitl [Hs]; · iexact Hs
    isplitl [HR HR']
    · iapply (rows_join d i (outF X) (a := b₀) (b := b₀ + k) (c := b₀ + (k + 1)) (by omega) (by omega))
      isplitl [HR]; · iexact HR
      iexact HR'
    iexact HO
  · rw [dif_neg h, show n - 1 = 0 by have := mt hc.mpr h; omega, show n + 1 - 2 = n - 2 by have := mt hc.mpr h; omega]
    unfold WP
    rw [wp_pure]
    iintro ⟨-, Hs, HR, HO⟩ HQ
    imodintro
    iapply HQ
    isplitl [Hs]; · iexact Hs
    isplitl [HR]; · iexact HR
    iexact HO

/-- Row `n` of the tile. -/
theorem wp_row {c : BitVec 1} (hc : c = 1#1) {H : Half} (hH : H.Lays) {X : ℕ → F .f32} {g : S1024x16384.Idx → F .f32} {b₀ n : ℕ}
    (hn : n < 32) (hb : b₀ + 32 ≤ 1024) {dr : BitVec 1} (hd : dr = 1#1 ↔ 2 ≤ n) {w : BitVec 32} (hw : w.toNat = 28 * (b₀ + n)) {off : Fin 2 → ℕ}
    {hoff : dr = 1#1 → ∀ a, off a + S1x16384.size a ≤ S1024x16384.size a} {off' : Fin 2 → ℕ}
    {hoff' : ∀ a, off' a + S1x16384.size a ≤ S1024x16384.size a} (ho : off' = ![b₀ + n, 0])
    {O : CellTallies nD τ sig (HIx 1)} {W : Waits sig (HIx 1)} {Q : PUnit → sProp 𝕄} :
    iprop(MayWaits (thr d i) none O ∗ HX d i X ∗ Tab d i v34T ∗ Tab d i k012T ∗ Slot d i H X b₀ (n - 1)
        ∗ Rows d i (outF X) b₀ (b₀ + (n - 2)) ∗ Rows d i g (b₀ + n) (b₀ + 32) ∗ Own d i O W)
      ⊢ iprop((HX d i X ∗ Tab d i v34T ∗ Tab d i k012T ∗ Slot d i H X b₀ (n + 1)
          ∗ Rows d i (outF X) b₀ (b₀ + (n + 1 - 2)) ∗ Rows d i g (b₀ + (n + 1)) (b₀ + 32) ∗ Own d i O W -∗ Q ⟨⟩)
        -∗ WP d i (row i hc H dr w off hoff off' hoff') Q) := by
  unfold row WP
  rw [wp_bind]
  iintro ⟨#Hm, HX, H34, H012, Hs, HR, HT, HO⟩ HQ
  iapply (wp_drain d i (n := n) hd) $$ [Hs HR HO]
  · isplitr; · iexact Hm
    isplitl [Hs]; · iexact Hs
    isplitl [HR]; · iexact HR
    iexact HO
  iintro ⟨Hs, HR, HO⟩
  rw [wp_bind]
  ihave H34 := (holds_nil d i v34T Finset.univ 0 (v34V X (b₀ + n))) $$ H34
  ihave H012 := (holds_nil d i k012T Finset.univ 0 (k012V X (b₀ + n))) $$ H012
  iapply (wp_tables d i hc hw (by omega) X _) $$ [HX H34 H012]
  · isplitl [HX]; · iexact HX
    isplitl [H34]; · iexact H34
    iexact H012
  iintro ⟨HX, H34, H012⟩
  rw [wp_bind]
  ihave Hs := (Entails.of_eq (slot_zero d i H X b₀)) $$ Hs
  icases Hs with ⟨Hf, Hs⟩
  ihave Hf := (holds_nil d i oT H.buf.view.set (H.base 0) (fun k => outV X (b₀ + n) (k - H.base 0))) $$ Hf
  iapply (wp_fill d i hc hH X (b₀ + n) _) $$ [H012 Hf]
  · isplitl [H012]; · iexact H012
    iexact Hf
  iintro ⟨H012, Hf⟩
  ihave HT := (rows_split d i g (a := b₀ + n) (b := b₀ + n + 1) (c := b₀ + 32) (by omega) (by omega)) $$ HT
  icases HT with ⟨Hr, HT⟩
  iapply (wp_fire d i (b₀ := b₀) (n := n) rfl ho) $$ [Hf Hr Hs]
  · isplitl [Hf]; · iexact Hf
    isplitl [Hr]; · iexact Hr
    iexact Hs
  iintro Hs
  iapply HQ
  isplitl [HX]; · iexact HX
  isplitl [H34]
  · iapply (holds_forget d i v34T Finset.univ _ _ _) $$ H34
  isplitl [H012]
  · iapply (holds_forget d i k012T Finset.univ _ _ _) $$ H012
  isplitl [Hs]; · iexact Hs
  isplitl [HR]; · iexact HR
  isplitl [HT]; · iexact HT
  iexact HO

/-- Before row `n`: the rows up to `n - 2` written, the last two in flight, the rest as they were. -/
def Inv (X : ℕ → F .f32) (g : S1024x16384.Idx → F .f32) (O : CellTallies nD τ sig (HIx 1)) (W : Waits sig (HIx 1)) (n : ℕ) : sProp 𝕄 :=
  iprop(MayWaits (thr d i) none O ∗ HX d i X ∗ Tab d i v34T ∗ Tab d i k012T
    ∗ Slot d i (halfOf n) X (base i) (n - 1) ∗ Slot d i (halfOf (n + 1)) X (base i) n
    ∗ Rows d i (outF X) (base i) (base i + (n - 2)) ∗ Rows d i g (base i + n) (base i + 32) ∗ Own d i O W)

theorem wp_trip (X : ℕ → F .f32) (g : S1024x16384.Idx → F .f32) (O : CellTallies nD τ sig (HIx 1)) (W : Waits sig (HIx 1))
    (t : Fin k0_t1_loop.trips) {c : BitVec 1} (hc : c = 1#1) {dr : BitVec 1} (hd : dr = 1#1 ↔ 2 ≤ t.val) (hH : (halfOf t.val).Lays)
    {off : Fin 2 → ℕ} {hoff : dr = 1#1 → ∀ a, off a + S1x16384.size a ≤ S1024x16384.size a} {off' : Fin 2 → ℕ}
    {hoff' : ∀ a, off' a + S1x16384.size a ≤ S1024x16384.size a} (ho : off' = ![base i + t.val, 0]) :
    (Inv d i X g O W t.val : sProp 𝕄)
      ⊢ WP d i (row i hc (halfOf t.val) dr (Scalar.muli (Scalar.addi (baseW i) (Scf.iv 0#32 1#32 t)) 28#32) off hoff off' hoff' >>= fun _ => pure 0#32)
        fun _ => Inv d i X g O W (t.val + 1) := by
  unfold WP Inv
  rw [wp_bind, halfOf_add_two]
  iintro ⟨#Hm, HX, H34, H012, Hs, Hs', HR, HT, HO⟩
  iapply (wp_row d i hc hH (X := X) (g := g) (b₀ := base i) (n := t.val) (trips_lt t) (base_le i) hd (word_toNat i t) ho) $$ [HX H34 H012 Hs HR HT HO]
  · isplitr; · iexact Hm
    isplitl [HX]; · iexact HX
    isplitl [H34]; · iexact H34
    isplitl [H012]; · iexact H012
    isplitl [Hs]; · iexact Hs
    isplitl [HR]; · iexact HR
    isplitl [HT]; · iexact HT
    iexact HO
  iintro ⟨HX, H34, H012, Hs, HR, HT, HO⟩
  rw [wp_pure]
  imodintro
  isplitr; · iexact Hm
  isplitl [HX]; · iexact HX
  isplitl [H34]; · iexact H34
  isplitl [H012]; · iexact H012
  isplitl [Hs']; · iexact Hs'
  isplitl [Hs]; · iexact Hs
  isplitl [HR]; · iexact HR
  isplitl [HT]; · iexact HT
  iexact HO

end Tile

end Cert.Proof.Krao
-- ==== Proof.Body.lean ====
/-
  The whole body of a tile over what it holds: the input's fetch, the loop over its thirty-two rows, and the last
  two waits.
-/
module

public import proofs.«01_k».proof.Proof.Tile

@[expose] public section

noncomputable section

namespace Cert.Proof.Krao

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 1) (Elt F) ℕ UU ℕ

/-- The flat input's words by number. -/
def wordsOf (gx : S28672.Idx → F .f32) (n : ℕ) : F .f32 := gx fun a => ⟨n % 28672, by
  obtain rfl : a = 0 := Subsingleton.elim _ _; exact Nat.mod_lt _ (by decide)⟩

omit [FloatOps F] in
theorem wordsOf_at (gx : S28672.Idx → F .f32) (y : S28672.Idx) : gx y = wordsOf gx (y 0).val := by
  unfold wordsOf
  congr 1
  funext a
  obtain rfl : a = 0 := Subsingleton.elim _ _
  exact Fin.ext (Nat.mod_eq_of_lt (y 0).isLt).symm

theorem halves_cover : (half0.buf.view.set : Finset S32768.Idx) ∪ half1.buf.view.set = Finset.univ := by
  ext y
  simp only [Finset.mem_union, Finset.mem_univ, iff_true]
  have hy : (y 0).val < 32768 := (y 0).isLt
  by_cases h : (y 0).val < 16384
  · exact .inl (mem_half half0 y (Nat.zero_le _) (show (y 0).val < 0 + 16384 by omega))
  · exact .inr (mem_half half1 y (show 16384 ≤ (y 0).val by omega) (show (y 0).val < 16384 + 16384 by omega))

theorem of_mem_half (H : Half) (y : S32768.Idx) (h : y ∈ (H.buf.view.set : Finset S32768.Idx)) :
    H.base 0 ≤ (y 0).val ∧ (y 0).val < H.base 0 + 16384 := by
  have h : y ∈ ((View.whole cc0_scratch3).slice (Rect.unit (s := S32768) H.base S16384.size H.base_in)).set := h
  rw [View.set_slice_whole] at h
  obtain ⟨j, hj, e⟩ := (LoadRect.mem_set (r := (Rect.unit (s := S32768) H.base S16384.size H.base_in).toLoadRect) (i := y)).mp h 0
  have hj : j < 16384 := hj
  have e : (y 0).val = H.base 0 + 1 * j := e
  omega

theorem halves_disjoint : Disjoint (half0.buf.view.set : Finset S32768.Idx) half1.buf.view.set := by
  rw [Finset.disjoint_left]
  intro y h0 h1
  have h0 : _ ∧ (y 0).val < 0 + 16384 := of_mem_half half0 y h0
  have h1 : 16384 ≤ (y 0).val ∧ _ := of_mem_half half1 y h1
  omega

theorem halfOf_even {n : ℕ} (h : n % 2 = 0) : halfOf n = half0 := if_pos h
theorem halfOf_odd {n : ℕ} (h : n % 2 = 1) : halfOf n = half1 := if_neg (by omega)

section Tile

variable (d : Dev nD) (i : grid0.Coords)

omit [FloatOps F] in
theorem halves_split : (Tab d i oT : sProp 𝕄) ⊢ iprop(Freed d i half0 ∗ Freed d i half1) := by
  iintro ⟨%f, H⟩
  have e : (oT.view.loc (thr d i) ↦[Finset.univ]{fullShare} f : sProp 𝕄)
      ⊢ iprop((oT.view.loc (thr d i) ↦[half0.buf.view.set]{fullShare} f) ∗ (oT.view.loc (thr d i) ↦[half1.buf.view.set]{fullShare} f)) :=
    (Entails.of_eq (congrArg (fun S : Finset S32768.Idx => (oT.view.loc (thr d i) ↦[S]{fullShare} f : sProp 𝕄)) halves_cover.symm)).trans
      (pointsTo_union halves_disjoint).1
  ihave H := e $$ H
  icases H with ⟨H0, H1⟩
  isplitl [H0]
  · iexists f; iexact H0
  · iexists f; iexact H1

omit [FloatOps F] in
theorem halves_join : iprop(Freed d i half0 ∗ Freed d i half1) ⊢ (Tab d i oT : sProp 𝕄) := by
  iintro ⟨⟨%f, H0⟩, ⟨%f', H1⟩⟩
  have e : iprop((oT.view.loc (thr d i) ↦[half0.buf.view.set]{fullShare} f) ∗ (oT.view.loc (thr d i) ↦[half1.buf.view.set]{fullShare} f'))
      ⊢ (oT.view.loc (thr d i) ↦[Finset.univ]{fullShare} ((half1.buf.view.set : Finset S32768.Idx).piecewise f' f) : sProp 𝕄) :=
    (pointsTo_join halves_disjoint).trans
      (Entails.of_eq (congrArg (fun S : Finset S32768.Idx => (oT.view.loc (thr d i) ↦[S]{fullShare} ((half1.buf.view.set : Finset S32768.Idx).piecewise f' f) : sProp 𝕄)) halves_cover))
  iexists _
  iapply e
  isplitl [H0]; · iexact H0
  iexact H1

theorem rows_nil (g : S1024x16384.Idx → F .f32) (a : ℕ) : (BI.emp : sProp 𝕄) ⊢ Rows d i g a a := by
  unfold Rows
  rw [band_empty]
  exact Entails.of_eq pointsTo_empty.symm

/-- What holds after the last row: thirty rows written, the last two in flight. -/
theorem inv_end (X : ℕ → F .f32) (g : S1024x16384.Idx → F .f32) (O : CellTallies nD τ sig (HIx 1)) (W : Waits sig (HIx 1)) :
    (Inv d i X g O W (Scf.trips k0_t1_loop.lb k0_t1_loop.ub k0_t1_loop.st) : sProp 𝕄)
      = iprop(MayWaits (thr d i) none O ∗ HX d i X ∗ Tab d i v34T ∗ Tab d i k012T
        ∗ Slot d i half0 X (base i) (30 + 1) ∗ Slot d i half1 X (base i) (31 + 1)
        ∗ Rows d i (outF X) (base i) (base i + 30) ∗ Rows d i g (base i + 32) (base i + 32) ∗ Own d i O W) := by
  rw [show Scf.trips k0_t1_loop.lb k0_t1_loop.ub k0_t1_loop.st = 32 from trips_eq]
  unfold Inv
  rw [halfOf_even (n := 32) rfl, halfOf_odd (n := 32 + 1) rfl]

/-- One trip of the printed outer loop. -/
theorem wp_printed_trip (X : ℕ → F .f32) (g : S1024x16384.Idx → F .f32) (O : CellTallies nD τ sig (HIx 1)) (W : Waits sig (HIx 1))
    (t : Fin k0_t1_loop.trips) (a : BitVec 32) :
    (Inv d i X g O W t.val : sProp 𝕄)
      ⊢ WP d i (k0_t1_body (F := F) i xA (Memref.isWhole_whole _) oA (Memref.isWhole_whole _) xT (Memref.isWhole_whole _) v34T (Memref.isWhole_whole _)
          k012T (Memref.isWhole_whole _) oT (Memref.isWhole_whole _) cc0_scratch4 cc0_scratch5 cc0_scoped0 (baseW i) t a)
        fun _ => Inv d i X g O W (t.val + 1) := by
  rcases even_or_odd t with ⟨h, hp⟩ | ⟨h, hp⟩
  · rw [trip_half0 i (baseW i) t a h, ← halfOf_even hp]
    exact wp_trip d i X g O W t h (cond2_iff t) (by rw [halfOf_even hp]; exact half0_lays) (k0_off3_eq i t)
  · rw [trip_half1 i (baseW i) t a h, ← halfOf_odd hp]
    exact wp_trip d i X g O W t h (cond4_iff t) (by rw [halfOf_odd hp]; exact half1_lays) (k0_off6_eq i t)

/-- What a tile holds besides its share of the input: its rows of the output, its scratch and its semaphores. -/
def Held (g : S1024x16384.Idx → F .f32) : sProp 𝕄 :=
  iprop(Rows d i g (base i) (base i + 32) ∗ Tab d i xT ∗ Tab d i v34T ∗ Tab d i k012T ∗ Tab d i oT
    ∗ semVal (thr d i, .dma cc0_scratch4.sem) 0 ∗ semVal (thr d i, .dma cc0_scratch5.sem) 0 ∗ semVal (thr d i, .dma cc0_scoped0.sem) 0)

theorem wp_body (q : PosShare TreeShare) (gx : S28672.Idx → F .f32) (g : S1024x16384.Idx → F .f32) (O : CellTallies nD τ sig (HIx 1)) (W : Waits sig (HIx 1)) :
    iprop(MayWaits (thr d i) none O ∗ (xA.view.loc (thr d i) ↦[xA.view.set]{q} (gx : Buf (Elt F) (xA.view.loc (thr d i)))) ∗ Held d i g ∗ Own d i O W)
      ⊢ WP d i (cc0__sc_body (F := F) i xA (Memref.isWhole_whole _) oA (Memref.isWhole_whole _) xT (Memref.isWhole_whole _) v34T (Memref.isWhole_whole _)
          k012T (Memref.isWhole_whole _) oT (Memref.isWhole_whole _) cc0_scratch4 cc0_scratch5 cc0_scoped0)
        fun _ => iprop((xA.view.loc (thr d i) ↦[xA.view.set]{q} (gx : Buf (Elt F) (xA.view.loc (thr d i)))) ∗ Held d i (outF (wordsOf gx)) ∗ Own d i O W) := by
  rw [cc0__sc_body_eq_skeleton]
  unfold cc0__sc_body_skel WP Held
  simp only [Prog.lift, Prog.bind_op, Prog.bind_ret, Prog.pure_eq_ret]
  iintro ⟨#Hm, Hx, ⟨HT, ⟨%fx, HxT⟩, H34, H012, Ho, Hs4, Hs5, Hs0⟩, ⟨%W', %hW, HO⟩⟩
  iapply (wp_dmaLocal countersEmb 𝒱₀ (thr d i) none (src := xA) (dst := xT) (Sd := Finset.univ) (fd := fx) none (xT.view.dmaCredit)
    ?_ ?_ ?_) $$ [Hx HxT Hs0]
  · rfl
  · exact View.dmaCredit_pos _ (show 0 < S28672.numel by decide)
  · exact Finset.subset_univ _
  · isplitl [Hx]; · iexact Hx
    isplitl [HxT]; · iexact HxT
    iexact Hs0
  iintro HF
  iapply (wp_waitLocalO countersEmb 𝒱₀ (thr d i) none none (show xT.view.dmaCredit = xT.view.dmaCredit from rfl)) $$ [HF HO]
  · isplitl [HF]; · iexact HF
    isplitl [HO]; · iexact HO
    iapply (MayWaits.elim (SemLoc.dma cc0_scoped0.sem)) $$ Hm
  iintro ⟨⟨HxT, Hx⟩, Hs0, HO⟩
  ihave HO := (own_insert d i hW _) $$ HO
  ihave Hh := (halves_split d i) $$ Ho
  icases Hh with ⟨Hh0, Hh1⟩
  iapply (Scf.wp_for_bind frame (wpE (defs₀ (F := F)) 𝒱₀ (thr d i) none) Set.univ _ _ _ _ _ _
    (fun k _ => Inv d i (wordsOf gx) g O W k) (fun t a => wp_printed_trip d i (wordsOf gx) g O W t a)) $$ [HxT H34 H012 Hh0 Hh1 Hs4 Hs5 HT HO]
  · unfold Inv
    isplitr; · iexact Hm
    isplitl [HxT]
    · unfold HX Holds
      iexists _
      isplitr
      swap
      · iexact HxT
      ipureintro
      intro y _ _
      rw [View.read_write_univ]
      exact wordsOf_at gx y
    isplitl [H34]; · iexact H34
    isplitl [H012]; · iexact H012
    isplitl [Hh0 Hs4]
    · iapply (Entails.of_eq (slot_zero d i half0 (wordsOf gx) (base i)).symm)
      isplitl [Hh0]; · iexact Hh0
      iexact Hs4
    isplitl [Hh1 Hs5]
    · iapply (Entails.of_eq (slot_zero d i half1 (wordsOf gx) (base i)).symm)
      isplitl [Hh1]; · iexact Hh1
      iexact Hs5
    isplitr [HT HO]
    · iapply (rows_nil d i (outF (wordsOf gx)) (base i))
      iempintro
    isplitl [HT]; · iexact HT
    iexact HO
  iintro %acc HI
  ihave HI := (Entails.of_eq (inv_end d i (wordsOf gx) g O W)) $$ HI
  icases HI with ⟨-, HxT, H34, H012, Hh0, Hh1, HR, -, HO⟩
  unfold HX
  ihave HxT := (holds_forget d i xT Finset.univ _ _ _) $$ HxT
  iapply (wp_await d i (H := half0)) $$ [Hh0 HO]
  · isplitr; · iexact Hm
    isplitl [Hh0]; · iexact Hh0
    iexact HO
  iintro ⟨Hh0, HR0, HO⟩
  iapply (wp_await d i (H := half1)) $$ [Hh1 HO]
  · isplitr; · iexact Hm
    isplitl [Hh1]; · iexact Hh1
    iexact HO
  iintro ⟨Hh1, HR1, HO⟩
  unfold WP
  rw [wp_ret]
  imodintro
  ihave Hh0 := (Entails.of_eq (slot_zero d i half0 (wordsOf gx) (base i))) $$ Hh0
  ihave Hh1 := (Entails.of_eq (slot_zero d i half1 (wordsOf gx) (base i))) $$ Hh1
  icases Hh0 with ⟨Hh0, Hs4⟩
  icases Hh1 with ⟨Hh1, Hs5⟩
  isplitl [Hx]; · iexact Hx
  isplitr [HO]
  swap
  · iexact HO
  isplitl [HR HR0 HR1]
  · iapply (rows_join d i (outF (wordsOf gx)) (a := base i) (b := base i + 31) (c := base i + 32) (by omega) (by omega))
    isplitl [HR HR0]
    · iapply (rows_join d i (outF (wordsOf gx)) (a := base i) (b := base i + 30) (c := base i + 31) (by omega) (by omega))
      isplitl [HR]; · iexact HR
      iexact HR0
    iexact HR1
  isplitl [HxT]; · iexact HxT
  isplitl [H34]; · iexact H34
  isplitl [H012]; · iexact H012
  isplitl [Hh0 Hh1]
  · iapply (halves_join d i)
    isplitl [Hh0]; · iexact Hh0
    iexact Hh1
  isplitl [Hs4]; · iexact Hs4
  isplitl [Hs5]; · iexact Hs5
  iexact Hs0

end Tile

end Cert.Proof.Krao
-- ==== Proof.Launch.lean ====
/-
  The launch: what a tile is handed and hands back, the run of `main` from any memory, and what it leaves in the
  arguments and in the result.
-/
module

public import proofs.«01_k».proof.Proof.Body

@[expose] public section

noncomputable section

namespace Cert.Proof.Krao

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type} [FloatOps F]

local notation "𝕄" => MT nD τ sig (HIx 1) (Elt F) ℕ UU ℕ

/-! ## A tile's own semaphores and buffers -/

section Own

variable (d : Dev nD) (i : grid0.Coords)

abbrev semA : GSem nD τ sig := (thr d i, .dma cc0_scratch4.sem)
abbrev semB : GSem nD τ sig := (thr d i, .dma cc0_scratch5.sem)
abbrev semC : GSem nD τ sig := (thr d i, .dma cc0_scoped0.sem)
/-- The tile as a processor. -/
abbrev prc : Proc τ := Proc.scVector ((i 0).castLE hcore0) ((i 1).castLE hsub0)

theorem sems_split :
    (ownSems0 (thr d i) : sProp 𝕄)
      = iprop(semVal (semA d i) 0 ∗ semVal (semB d i) 0 ∗ semVal (semC d i) 0
          ∗ bigSep ((((ownCells (thr d i)).erase (semA d i)).erase (semB d i)).erase (semC d i)) fun g => semVal g 0) := by
  have hA : semA d i ∈ ownCells (thr d i) := mem_ownCells.mpr ⟨rfl, by
    show (SemLoc.dma cc0_scratch4.sem : SemLoc sig).isScoped .scVector = true; decide⟩
  have hB : semB d i ∈ ownCells (thr d i) := mem_ownCells.mpr ⟨rfl, by
    show (SemLoc.dma cc0_scratch5.sem : SemLoc sig).isScoped .scVector = true; decide⟩
  have hC : semC d i ∈ ownCells (thr d i) := mem_ownCells.mpr ⟨rfl, by
    show (SemLoc.dma cc0_scoped0.sem : SemLoc sig).isScoped .scVector = true; decide⟩
  have nBA : semB d i ≠ semA d i := fun e => absurd (Prod.mk.inj e).2 (by decide)
  have nCA : semC d i ≠ semA d i := fun e => absurd (Prod.mk.inj e).2 (by decide)
  have nCB : semC d i ≠ semB d i := fun e => absurd (Prod.mk.inj e).2 (by decide)
  unfold SparseCore.Cfg.ownSems0
  rw [SparseCore.bigSep_erase' hA, SparseCore.bigSep_erase' (Finset.mem_erase.mpr ⟨nBA, hB⟩),
    SparseCore.bigSep_erase' (Finset.mem_erase.mpr ⟨nCB, Finset.mem_erase.mpr ⟨nCA, hC⟩⟩)]

/-- A scratch buffer at some contents. -/
abbrev Scr (b : Ref sig .scVector) : sProp 𝕄 := iprop(∃ f, (thr d i).loc b ↦{fullShare} f)

theorem bufs_split :
    (ownBufs (thr d i) : sProp 𝕄)
      = iprop(Scr d i cc0_scratch0 ∗ Scr d i cc0_scratch1 ∗ Scr d i cc0_scratch2 ∗ Scr d i cc0_scratch3
          ∗ bigSep (((((ownRefs (τ := τ) (prc i)).erase ((prc i).devRef cc0_scratch0)).erase ((prc i).devRef cc0_scratch1)).erase
              ((prc i).devRef cc0_scratch2)).erase ((prc i).devRef cc0_scratch3))
              fun b => iprop(∃ f, ((d, b) : Loc nD τ sig) ↦{fullShare} f)) := by
  have ne {a b : Ref sig .scVector} (h : a ≠ b) : (prc i).devRef a ≠ (prc i).devRef b := fun e => h (Proc.devRef_injective _ e)
  have h0 : (prc i).devRef cc0_scratch0 ∈ ownRefs (τ := τ) (prc i) := SparseCore.Cfg.mem_ownRefs_of_owner rfl
  have h1 : (prc i).devRef cc0_scratch1 ∈ ownRefs (τ := τ) (prc i) := SparseCore.Cfg.mem_ownRefs_of_owner rfl
  have h2 : (prc i).devRef cc0_scratch2 ∈ ownRefs (τ := τ) (prc i) := SparseCore.Cfg.mem_ownRefs_of_owner rfl
  have h3 : (prc i).devRef cc0_scratch3 ∈ ownRefs (τ := τ) (prc i) := SparseCore.Cfg.mem_ownRefs_of_owner rfl
  unfold SparseCore.Cfg.ownBufs
  refine (SparseCore.bigSep_erase' h0).trans ?_
  rw [SparseCore.bigSep_erase' (Finset.mem_erase.mpr ⟨ne (by decide), h1⟩),
    SparseCore.bigSep_erase' (Finset.mem_erase.mpr ⟨ne (by decide), Finset.mem_erase.mpr ⟨ne (by decide), h2⟩⟩),
    SparseCore.bigSep_erase' (Finset.mem_erase.mpr ⟨ne (by decide), Finset.mem_erase.mpr ⟨ne (by decide), Finset.mem_erase.mpr ⟨ne (by decide), h3⟩⟩⟩)]

end Own

/-! ## What a tile is handed and hands back -/

/-- The tile on core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

abbrev aLoc (d : Dev nD) : Loc nD τ sig := (SparseCore.T d).loc main_arg0
abbrev bLoc (d : Dev nD) : Loc nD τ sig := (SparseCore.T d).loc main_arg1
abbrev xLoc (d : Dev nD) : Loc nD τ sig := (SparseCore.T d).loc main_v0
abbrev oLoc (d : Dev nD) : Loc nD τ sig := (SparseCore.T d).loc main_v1

/-- Core `c`'s share of the flat input, and subcore `s`'s share of that. -/
def shr (c : Fin 2) (s : Fin 16) : PosShare TreeShare := dealOf (dealOf fullShare Finset.univ c) Finset.univ s

/-- One tile's piece: its share of the flat input, its band of the result at contents `g`. -/
def Piece (d : Dev nD) (gx : S28672.Idx → F .f32) (g : S1024x16384.Idx → F .f32) (c : Fin 2) (s : Fin 16) : sProp 𝕄 :=
  iprop((xLoc d ↦{shr c s} (gx : Buf (Elt F) (xLoc d))) ∗ Rows d (coordsV c s) g (base (coordsV c s)) (base (coordsV c s) + 32))

instance piece_storable (d : Dev nD) (gx : S28672.Idx → F .f32) (g : S1024x16384.Idx → F .f32) (c : Fin 2) (s : Fin 16) :
    BI.Storable (upEmb : UEmb _ 𝕄) (Piece d gx g c s) := by unfold Piece Rows; infer_instance

/-- A tile's body between what the launch hands it and what it hands back. -/
theorem tile_body (d : Dev nD) (c : Fin 2) (s : Fin 16) (gx : S28672.Idx → F .f32) (g : S1024x16384.Idx → F .f32)
    (O : CellTallies nD τ sig (HIx 1)) (W : Waits sig (HIx 1)) (hO : ∀ g, O g none = 0) :
    iprop(levAts (K (F := F)).L (K (F := F)).lev ∗ emp ∗ Piece d gx g c s
        ∗ scopedBufs (thr d (coordsV c s)) ∗ scopedSems0 (thr d (coordsV c s)) ∗ owes (thr d (coordsV c s)) O W)
      ⊢ wp frame (wpE (defs₀ (F := F)) 𝒱₀ (thr d (coordsV c s)) none) Set.univ
          (cc0__sc_body (F := F) (coordsV c s) xA (Memref.isWhole_whole _) oA (Memref.isWhole_whole _) xT (Memref.isWhole_whole _) v34T (Memref.isWhole_whole _)
            k012T (Memref.isWhole_whole _) oT (Memref.isWhole_whole _) cc0_scratch4 cc0_scratch5 cc0_scoped0)
          fun _ => iprop(Piece d gx (outF (wordsOf gx)) c s ∗ scopedBufs (thr d (coordsV c s)) ∗ scopedSems0 (thr d (coordsV c s))
            ∗ ∃ W', ⌜∀ p ∈ W', p ∈ W ∨ p.2 = none⌝ ∗ owes (thr d (coordsV c s)) O W') := by
  rw [(K (F := F)).scopedBufs_V launchFacts d _ _, SparseCore.Cfg.scopedSems0_V (Val := Elt F) d _ _, sems_split, bufs_split]
  have body := wp_body d (coordsV c s) (shr c s) gx g O W
  rw [show xA.view.set = Finset.univ from View.set_whole _] at body
  unfold Held at body
  unfold Piece
  iintro ⟨#Hlv, -, ⟨Hx, HR⟩, ⟨H0, H1, H2, H3, Hbufs⟩, ⟨HA, HB, HC, Hsems⟩, HO⟩
  iapply wp_wand $$ [Hx HR H0 H1 H2 H3 HA HB HC HO]
  · iapply body
    isplitr; · iapply ((K (F := F)).mayWaits_none (thr := thr d (coordsV c s)) hO); iexact Hlv
    isplitl [Hx]; · iexact Hx
    isplitr [HO]
    · isplitl [HR]; · iexact HR
      isplitl [H0]; · iexact H0
      isplitl [H1]; · iexact H1
      isplitl [H2]; · iexact H2
      isplitl [H3]; · iexact H3
      isplitl [HA]; · iexact HA
      isplitl [HB]; · iexact HB
      iexact HC
    iexists W; isplitr
    · ipureintro; exact fun p hp => .inl hp
    · iexact HO
  iintro %r ⟨Hx, ⟨HR, H0, H1, H2, H3, HA, HB, HC⟩, HO⟩
  isplitl [Hx HR]
  · isplitl [Hx]; · iexact Hx
    iexact HR
  isplitl [H0 H1 H2 H3 Hbufs]
  · isplitl [H0]; · iexact H0
    isplitl [H1]; · iexact H1
    isplitl [H2]; · iexact H2
    isplitl [H3]; · iexact H3
    iexact Hbufs
  isplitl [HA HB HC Hsems]
  · isplitl [HA]; · iexact HA
    isplitl [HB]; · iexact HB
    isplitl [HC]; · iexact HC
    iexact Hsems
  iexact HO

/-! ## The launch -/

variable (m : (ℓ : Loc nD τ sig) → Buf (Elt F) ℓ) (ρ : Dev nD → PrngReg)

/-- The host's reshape of the argument. -/
abbrev opFlat : HloOp τ sig (Elt F) := StableHlo.reshape main_arg0 main_v0 (rfl : (.f32 : EltTy) = .f32) shapeCasts_S1024x7x4_S28672

abbrev a' : DevRef τ sig := Proc.devRef .tc (main_arg0 : Ref sig .tc)
abbrev b' : DevRef τ sig := Proc.devRef .tc (main_arg1 : Ref sig .tc)
abbrev x' : DevRef τ sig := Proc.devRef .tc (main_v0 : Ref sig .tc)
abbrev o' : DevRef τ sig := Proc.devRef .tc (main_v1 : Ref sig .tc)

/-- The memory of device `d` at the launch. -/
def V0 (d : Dev nD) : Valuation τ sig (Elt F) := fun b => m (d, b)

/-- The flat input the tiles read, and the result they leave. -/
def flat (d : Dev nD) : S28672.Idx → F .f32 := (opFlat (F := F)).result (V0 m d) x'
def OUT (d : Dev nD) : S1024x16384.Idx → F .f32 := outF (wordsOf (flat m d))

def P : (K (F := F)).Pay (nD := nD) (Val := Elt F) (Name := ℕ) (U := UU) where
  st := fun q d c => match q with | 0 => bigSep Finset.univ fun s : Fin 16 => Piece d (flat m d) (m (oLoc d)) c s
  dn := fun q d c => match q with | 0 => bigSep Finset.univ fun s : Fin 16 => Piece d (flat m d) (OUT m d) c s
  go := fun q d c s => match q with | 0 => Piece d (flat m d) (m (oLoc d)) c s
  td := fun q d c s => match q with | 0 => Piece d (flat m d) (OUT m d) c s
  x := fun _ _ => iprop(emp)

instance P_storable : (P (F := F) m).IsStorable where
  st q d c := match q with
    | 0 => (inferInstance : BI.Storable (upEmb : UEmb _ 𝕄) (bigSep Finset.univ fun s : Fin 16 => Piece d (flat m d) (m (oLoc d)) c s))
  dn q d c := match q with
    | 0 => (inferInstance : BI.Storable (upEmb : UEmb _ 𝕄) (bigSep Finset.univ fun s : Fin 16 => Piece d (flat m d) (OUT m d) c s))
  go q d c s := match q with | 0 => (inferInstance : BI.Storable (upEmb : UEmb _ 𝕄) (Piece d (flat m d) (m (oLoc d)) c s))
  td q d c s := match q with | 0 => (inferInstance : BI.Storable (upEmb : UEmb _ 𝕄) (Piece d (flat m d) (OUT m d) c s))

theorem defs₀_vector (c : Fin τ.nSC) (s : Fin τ.nSub) :
    defs₀ (F := F) (.scVector c s) 0 ()
      = SparseCore.onTile hcore0 hsub0 (fun c s => cc0__sc_body (coordsV c s) xA (Memref.isWhole_whole _) oA (Memref.isWhole_whole _)
          xT (Memref.isWhole_whole _) v34T (Memref.isWhole_whole _) k012T (Memref.isWhole_whole _) oT (Memref.isWhole_whole _)
          cc0_scratch4 cc0_scratch5 cc0_scoped0) ⟨⟩ c s := rfl

omit [FloatOps F] in
/-- What a tile waited for, read as the launch theorem asks. -/
theorem post_weaken {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %h, HO⟩
  isplitl [HA]; · iexact HA
  isplitl [HB]; · iexact HB
  isplitl [HC]; · iexact HC
  iexists W'
  isplitr
  · ipureintro; exact fun p hp => (h p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  exact (tile_body d c i (flat m d) (m (oLoc d)) O W hO).trans (wp_mono frame _ _ fun _ => post_weaken)

theorem vecSplit : (K (F := F)).VecSplit' (P m) 0 := by
  intro d c
  show (bigSep Finset.univ fun s : Fin 16 => Piece d (flat m d) (m (oLoc d)) c s) ⊢ |={Set.univ}=> iprop(
    (bigSep Finset.univ fun s : Fin 16 => Piece d (flat m d) (m (oLoc d)) c s)
    ∗ ((bigSep Finset.univ fun s : Fin 16 => Piece d (flat m d) (OUT m d) c s) -∗ bigSep Finset.univ fun s : Fin 16 => Piece d (flat m d) (OUT m d) c s))
  iintro H
  imodintro
  isplitl [H]; · iexact H
  iintro H
  iexact H

def u₀ : UU := (initOf (K (F := F)).hsCells (K (F := F)).hsToks, 1)

omit [FloatOps F] in
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun th : Thread nD τ => bigSep Finset.univ fun q : Fin 1 => (P m).x q th) := by
  unfold u₀ P
  dsimp only
  rw [show (bigSep Finset.univ fun _ : Thread nD τ => bigSep Finset.univ fun _ : Fin 1 => (iprop(emp) : sProp 𝕄)) = iprop(emp) from by
    rw [bigSep_congr fun _ _ => emps _, emps], emps]
  iintro Hu
  ihave H := (ownU_pair _ _) $$ Hu
  icases H with ⟨HH, -⟩
  imodintro
  isplitl [HH]; · iexact HH
  isplitr <;> iempintro

/-! ## The pieces together -/

omit [FloatOps F] in
theorem bands_apart (p q : Fin 2 × Fin 16) (h : p ≠ q) :
    Disjoint (band (base (coordsV p.1 p.2)) (base (coordsV p.1 p.2) + 32)) (band (base (coordsV q.1 q.2)) (base (coordsV q.1 q.2) + 32)) := by
  rw [Finset.disjoint_left]
  intro z h1 h2
  rw [mem_band] at h1 h2
  have hp : p.1.val < 2 := p.1.isLt
  have hq : q.1.val < 2 := q.1.isLt
  refine h (Prod.ext (Fin.ext ?_) (Fin.ext ?_))
  all_goals
    have e1 : base (coordsV p.1 p.2) = 64 * p.2.val + 32 * p.1.val := rfl
    have e2 : base (coordsV q.1 q.2) = 64 * q.2.val + 32 * q.1.val := rfl
    omega

omit [FloatOps F] in
theorem bands_cover : (Finset.univ : Finset (Fin 2 × Fin 16)).biUnion (fun p => band (base (coordsV p.1 p.2)) (base (coordsV p.1 p.2) + 32)) = Finset.univ := by
  ext z
  simp only [Finset.mem_biUnion, Finset.mem_univ, true_and, iff_true]
  have hz : (z 0).val < 1024 := (z 0).isLt
  refine ⟨(⟨(z 0).val / 32 % 2, by omega⟩, ⟨(z 0).val / 64, by omega⟩), ?_⟩
  rw [mem_band]
  show 64 * ((z 0).val / 64) + 32 * ((z 0).val / 32 % 2) ≤ (z 0).val ∧ (z 0).val < 64 * ((z 0).val / 64) + 32 * ((z 0).val / 32 % 2) + 32
  omega

/-- A tile's band of the result, as places of its buffer. -/
def bandOf (d : Dev nD) (p : Fin 2 × Fin 16) : Finset (Idx (oLoc d)) :=
  (band (base (coordsV p.1 p.2)) (base (coordsV p.1 p.2) + 32) : Finset S1024x16384.Idx)

omit [FloatOps F] in
/-- The whole result is its bands. -/
theorem rows_whole (d : Dev nD) (g : S1024x16384.Idx → F .f32) :
    (oLoc d ↦{fullShare} (g : Buf (Elt F) (oLoc d)) : sProp 𝕄) = bigSep Finset.univ fun c : Fin 2 => bigSep Finset.univ fun s : Fin 16 =>
      Rows d (coordsV c s) g (base (coordsV c s)) (base (coordsV c s) + 32) := by
  rw [← bigSep_univ_prod fun p : Fin 2 × Fin 16 => (Rows d (coordsV p.1 p.2) g (base (coordsV p.1 p.2)) (base (coordsV p.1 p.2) + 32) : sProp 𝕄)]
  have e := pointsTo_biUnion (nD := nD) (τ := τ) (sig := sig) (Ix := HIx 1) (Val := Elt F) (Name := ℕ) (U := UU) (Lvl := ℕ) (ℓ := oLoc d) (q := fullShare)
    (f := (g : Buf (Elt F) (oLoc d))) (Finset.univ : Finset (Fin 2 × Fin 16)) (bandOf d) fun p _ q _ h => bands_apart p q h
  rw [show (Finset.univ : Finset (Fin 2 × Fin 16)).biUnion (bandOf d) = (Finset.univ : Finset (Idx (oLoc d))) from bands_cover] at e
  exact e

omit [FloatOps F] in
/-- The whole flat input is its tiles' shares. -/
theorem flat_whole (d : Dev nD) (gx : S28672.Idx → F .f32) :
    (xLoc d ↦{fullShare} (gx : Buf (Elt F) (xLoc d)) : sProp 𝕄) = bigSep Finset.univ fun c : Fin 2 => bigSep Finset.univ fun s : Fin 16 =>
      (xLoc d ↦{shr c s} (gx : Buf (Elt F) (xLoc d))) := by
  rw [pointsTo_deal (Finset.univ : Finset (Fin 2)) Finset.univ_nonempty fullShare]
  exact bigSep_congr fun c _ => pointsTo_deal (Finset.univ : Finset (Fin 16)) Finset.univ_nonempty _

omit [FloatOps F] in
/-- All the tiles' pieces are the flat input and the result. -/
theorem pieces_whole (d : Dev nD) (gx : S28672.Idx → F .f32) (g : S1024x16384.Idx → F .f32) :
    (bigSep Finset.univ fun c : Fin 2 => bigSep Finset.univ fun s : Fin 16 => Piece d gx g c s)
      = (iprop((xLoc d ↦{fullShare} (gx : Buf (Elt F) (xLoc d))) ∗ oLoc d ↦{fullShare} (g : Buf (Elt F) (oLoc d))) : sProp 𝕄) := by
  rw [rows_whole, flat_whole, ← bigSep_sep']
  refine bigSep_congr fun c _ => ?_
  rw [← bigSep_sep']
  rfl

/-! ## `main` -/

/-- The TensorCore's arrays. -/
abbrev S4 : Finset (DevRef τ sig) := {a', b', x', o'}

omit [FloatOps F] in
theorem held_S4 (d : Dev nD) (W : Valuation τ sig (Elt F)) :
    (held (T d) S4 W : sProp 𝕄)
      = iprop((aLoc d ↦{fullShare} W a') ∗ (bLoc d ↦{fullShare} W b') ∗ (xLoc d ↦{fullShare} W x') ∗ oLoc d ↦{fullShare} W o') := by
  unfold held S4
  rw [SparseCore.bigSep_insert' (by decide), SparseCore.bigSep_insert' (by decide), SparseCore.bigSep_insert' (by decide), bigSep_singleton]

omit [FloatOps F] in
theorem unscoped_held (d : Dev nD) : (unscopedBufs d (fun b => m ((SparseCore.T d).loc b)) : sProp 𝕄) = held (T d) S4 (V0 m d) := by
  rw [held_S4]
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]
  rfl

theorem opFlat_bufs : (opFlat (F := F)).bufs ⊆ S4 := show ({a', x'} : Finset (DevRef τ sig)) ⊆ S4 by decide

/-- The arrays after the reshape. -/
theorem held_flat (d : Dev nD) :
    (held (T d) S4 ((opFlat (F := F)).result (V0 m d)) : sProp 𝕄)
      = iprop((aLoc d ↦{fullShare} m (aLoc d)) ∗ (bLoc d ↦{fullShare} m (bLoc d)) ∗ (xLoc d ↦{fullShare} (flat m d : Buf (Elt F) (xLoc d)))
          ∗ oLoc d ↦{fullShare} m (oLoc d)) := by
  rw [held_S4,
    (opFlat (F := F)).result_of_not_mem (V0 m d) (b := a') (show a' ∉ ({x'} : Finset (DevRef τ sig)) by decide),
    (opFlat (F := F)).result_of_not_mem (V0 m d) (b := b') (show b' ∉ ({x'} : Finset (DevRef τ sig)) by decide),
    (opFlat (F := F)).result_of_not_mem (V0 m d) (b := o') (show o' ∉ ({x'} : Finset (DevRef τ sig)) by decide)]
  rfl

theorem st_whole (d : Dev nD) : (bigSep Finset.univ fun c : Fin ((K (F := F)).nCore 0) => (P m).st 0 d c)
    = iprop((xLoc d ↦{fullShare} (flat m d : Buf (Elt F) (xLoc d))) ∗ oLoc d ↦{fullShare} m (oLoc d)) :=
  pieces_whole d (flat m d) (m (oLoc d))
theorem dn_whole (d : Dev nD) : (bigSep Finset.univ fun c : Fin ((K (F := F)).nCore 0) => (P m).dn 0 d c)
    = iprop((xLoc d ↦{fullShare} (flat m d : Buf (Elt F) (xLoc d))) ∗ oLoc d ↦{fullShare} (OUT m d : Buf (Elt F) (oLoc d))) :=
  pieces_whole d (flat m d) (OUT m d)

/-- What `main` leaves: the arguments as they were, the result. -/
abbrev FIN (d : Dev nD) : sProp 𝕄 :=
  iprop((aLoc d ↦{fullShare} m (aLoc d)) ∗ (bLoc d ↦{fullShare} m (bLoc d)) ∗ oLoc d ↦{fullShare} (OUT m d : Buf (Elt F) (oLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := S4) opFlat_bufs (V := V0 m d)) $$ [Hb Hheld]
  · isplitl [Hb]; · iexact Hb
    iexact Hheld
  iintro ⟨Hb, Hheld⟩
  ihave Hh := (Entails.of_eq (held_flat m d)) $$ Hheld
  icases Hh with ⟨Ha, Hi, Hx, Ho⟩
  rw [wp_ret]
  imodintro
  iapply ((K (F := F)).wp_run (D (F := F)) 𝒱 (EH := EH) (P := P m) κ d 0) $$ [Hst Hx Ho Hb Hts Ha Hi]
  isplitr; · iexact Hctx
  isplitl [Hst]; · iexact Hst
  isplitl [Hx Ho]
  · rw [st_whole]
    isplitl [Hx]; · iexact Hx
    iexact Ho
  iintro ⟨Hst, Hdn⟩
  ihave Hd := (Entails.of_eq (dn_whole m d)) $$ Hdn
  icases Hd with ⟨-, Ho⟩
  imodintro
  isplitl [Hst]; · iexact Hst
  isplitr [Hb Hts]
  · isplitl [Ha]; · iexact Ha
    isplitl [Hi]; · iexact Hi
    iexact Ho
  isplitl [Hb] <;> iassumption

def fq (d : Dev nD) (s' : Phys nD τ sig (Elt F)) : Prop :=
  s'.mem.mem (aLoc d) = m (aLoc d) ∧ s'.mem.mem (bLoc d) = m (bLoc d) ∧ s'.mem.mem (oLoc d) = (OUT m d : Buf (Elt F) (oLoc d))

theorem hfin (d : Dev nD) (s' : Phys nD τ sig (Elt F)) : iprop(FIN m d ∗ SI s') ⊢ (⌜fq m d s'⌝ : sProp 𝕄) := by
  iintro ⟨⟨Ha, Hb, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := oLoc d) (I := Finset.univ) (q := fullShare) (f := (OUT m d : Buf (Elt F) (oLoc d)))) $$ [HSI Ho]
  · isplitl [HSI] <;> iassumption
  icases H with %h3
  ipureintro
  exact ⟨funext fun j => h1 j (Finset.mem_univ j), funext fun j => h2 j (Finset.mem_univ j), funext fun j => h3 j (Finset.mem_univ j)⟩

/-! ## The run -/

def QC : PUnit × MemSt nD τ sig (Elt F) → Prop := fun r =>
  (∀ c : Dev nD, r.2.mem (aLoc c) = m (aLoc c) ∧ r.2.mem (bLoc c) = m (bLoc c) ∧ r.2.mem (oLoc c) = (OUT m c : Buf (Elt F) (oLoc c)))
    ∧ r.2.sem = fun _ => 0

/-- From any memory the program ends with its arguments unchanged, every semaphore at zero and the result `OUT`. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Krao
-- ==== Proof.Factors.lean ====
/-
  The reference read at an index: under the precondition, row `b` and rule `r` hold the product of the seven words
  that the digits of `r` name.
-/
module

public import proofs.«01_k».proof.Defs
public import proofs.«01_k».proof.Proof.Gen.ReferenceIdeal
public import proofs.«01_k».proof.Proof.Gen.ReferenceIdeal.Run
public import proofs.«01_k».proof.Proof.Gen.Pre_cartesian
public import Idealize.ShloMosaic.Lib.StableHlo.Predicate
public import Idealize.ShloMosaic.Lib.ReduceAll
public import Idealize.ShloMosaic.Lib.ValueIdx
public import Idealize.ShloMosaic.Lib.Pipeline.Value

@[expose] public section

noncomputable section

namespace Cert.Proof.Factors

open Cert.ReferenceIdeal Cert.ReferenceIdeal.Gen
open Idealize.ShloMosaic Idealize.ShloMosaic.ValueIdx

variable {F : FTy → Type} [FloatOps F]

/-! ## Words below four -/

theorem word_cases (w : BitVec 32) (h : w.toNat < 4) : w = 0#32 ∨ w = 1#32 ∨ w = 2#32 ∨ w = 3#32 := by
  have e : w = BitVec.ofNat 32 w.toNat := (BitVec.ofNat_toNat 32 w ▸ (BitVec.setWidth_eq w).symm)
  generalize w.toNat = n at h e
  subst e
  interval_cases n <;> simp

theorem small_word (w : BitVec 32) (h : w.toNat < 4) :
    IntOp.cmpi .slt w 0#32 = 0#1 ∧ IntOp.andi (IntOp.cmpi .sge w 0#32) (IntOp.cmpi .sle w 3#32) = 1#1 ∧ min w.toInt.toNat 3 = w.toNat := by
  rcases word_cases w h with rfl | rfl | rfl | rfl <;> decide

/-! ## The rules' indices as the reference prepares them -/

variable (mf : IVec S16384x7 32) (x : FVec F S1024x7x4 .f32)

/-- The indices, repeated for every row of the batch. -/
abbrev spread : IVec S1024x16384x7 32 :=
  broadcastInDim S1024x16384x7 ![0, 1, 2] bcast_S1x16384x7_S1024x16384x7_0_1_2 (broadcastInDim S1x16384x7 ![1, 2] bcast_S16384x7_S1x16384x7_1_2 mf)

/-- A negative index counts from the end. -/
abbrev wrapped : IVec S1024x16384x7 32 :=
  select (cmpi .slt (spread mf) (broadcastInDim S1024x16384x7 ![] bcast_S_S1024x16384x7 (constantI S_ 32 0#32)))
    (addi (spread mf) (broadcastInDim S1024x16384x7 ![] bcast_S_S1024x16384x7 (constantI S_ 32 4#32))) (spread mf)

/-- The indices as the gather takes them. -/
def starts : IVec S1024x16384x7x1 32 := shapeCast _ (wrapped mf) shapeCasts_S1024x16384x7_S1024x16384x7x1

/-- Where an index lies in range. -/
def inRange : IVec S1024x16384x7 1 :=
  Host.reduce IntOp.andi (andi (cmpi .sge (starts mf) (broadcastInDim S1024x16384x7x1 ![] bcast_S_S1024x16384x7x1 (constantI S_ 32 0#32)))
    (cmpi .sle (starts mf) (broadcastInDim S1024x16384x7x1 ![0, 1, 2, 3] bcast_S1x1x1x1_S1024x16384x7x1_0_1_2_3 (broadcastInDim S1x1x1x1 ![3] bcast_S1_S1x1x1x1_3 (constantI S1 32 3#32)))))
    (constantI S_ 1 1#1) reducesTo_S1024x16384x7x1_S1024x16384x7_d3 h_S_

/-- The factors, one for each row, rule and variable. -/
def ants : FVec F S1024x16384x7 .f32 :=
  select (inRange mf)
    (Host.gather gather_S1024x4x7_S1024x16384x7x1_S1024x16384x7_n_1_02_02_1_3_111 (transpose S1024x4x7 [0, 2, 1] x transposes_S1024x7x4_S1024x4x7_0_2_1) (starts mf))
    (broadcastInDim S1024x16384x7 ![] bcast_S_S1024x16384x7 (constant S_ .f32 0x7FC00000#32))

theorem spread_apply (b : Fin 1024) (r : Fin 16384) (v : Fin 7) : spread mf (ix3 b r v) = mf (ix2 r v) := by
  unfold spread
  rw [broadcastInDim_apply _ _ _ _ (ix3 (0 : Fin 1) r v) (fun a => by fin_cases a <;> rfl),
    broadcastInDim_apply _ _ _ _ (ix2 r v) (fun a => by fin_cases a <;> rfl)]

theorem wrapped_apply (h : ∀ r v, (mf (ix2 r v)).toNat < 4) (b : Fin 1024) (r : Fin 16384) (v : Fin 7) : wrapped mf (ix3 b r v) = mf (ix2 r v) := by
  show Scalar.select (IntOp.cmpi .slt (spread mf (ix3 b r v)) 0#32) _ (spread mf (ix3 b r v)) = _
  rw [spread_apply, (small_word _ (h r v)).1]
  rfl

theorem starts_apply (h : ∀ r v, (mf (ix2 r v)).toNat < 4) (b : Fin 1024) (r : Fin 16384) (v : Fin 7) (w : Fin 1) :
    starts mf (ix4 b r v w) = mf (ix2 r v) := by
  unfold starts
  rw [shapeCast_apply _ _ (ix4 b r v w) (ix3 b r v) (by
    rw [Shape.rowMajor_val_three, Shape.rowMajor_val_four]
    show (b.val * 16384 + r.val) * 7 + v.val = ((b.val * 16384 + r.val) * 7 + v.val) * 1 + w.val
    omega)]
  exact wrapped_apply mf h _ _ _

theorem inRange_apply (h : ∀ r v, (mf (ix2 r v)).toNat < 4) (z : S1024x16384x7.Idx) : inRange mf z = 1#1 := by
  unfold inRange
  refine Host.reduce_andi_one _ _ _ _ _ rfl fun i => ?_
  show IntOp.andi (IntOp.cmpi .sge (starts mf i) 0#32) (IntOp.cmpi .sle (starts mf i) 3#32) = 1#1
  obtain ⟨b, r, v, w, rfl⟩ : ∃ (b : Fin 1024) (r : Fin 16384) (v : Fin 7) (w : Fin 1), i = ix4 b r v w :=
    ⟨i 0, i 1, i 2, i 3, funext fun a => by fin_cases a <;> rfl⟩
  rw [starts_apply mf h]
  exact (small_word _ (h _ _)).2.1

/-- The gather reads, of row `b` and variable `v`, the word its index names. -/
theorem gather_apply {α : Type} (y : S1024x4x7.Idx → α) (s : IVec S1024x16384x7x1 32) (b : Fin 1024) (r : Fin 16384) (v : Fin 7) :
    Host.gather gather_S1024x4x7_S1024x16384x7x1_S1024x16384x7_n_1_02_02_1_3_111 y s (ix3 b r v)
      = y (ix3 b ⟨min (s (ix4 b r v (0 : Fin 1))).toInt.toNat 3, by omega⟩ v) := by
  unfold Host.gather
  refine congrArg y (funext fun a => Fin.ext ?_)
  have h0 : (⟨0, by decide⟩ : Fin S1024x4x7.rank) ∈ gather_S1024x4x7_S1024x16384x7x1_S1024x16384x7_n_1_02_02_1_3_111.operandBatchingDims := by decide
  have h2 : (⟨2, by decide⟩ : Fin S1024x4x7.rank) ∈ gather_S1024x4x7_S1024x16384x7x1_S1024x16384x7_n_1_02_02_1_3_111.operandBatchingDims := by decide
  have n1 : (⟨1, by decide⟩ : Fin S1024x4x7.rank) ∉ gather_S1024x4x7_S1024x16384x7x1_S1024x16384x7_n_1_02_02_1_3_111.operandBatchingDims := by decide
  have c1 : (⟨1, by decide⟩ : Fin S1024x4x7.rank) ∈ gather_S1024x4x7_S1024x16384x7x1_S1024x16384x7_n_1_02_02_1_3_111.collapsedSliceDims := by decide
  have m1 : (⟨1, by decide⟩ : Fin S1024x4x7.rank) ∈ gather_S1024x4x7_S1024x16384x7x1_S1024x16384x7_n_1_02_02_1_3_111.startIndexMap := by decide
  show GatherDims.start _ (ix3 b r v) s a + GatherDims.batchCoord _ (ix3 b r v) a + GatherDims.offCoord _ (ix3 b r v) a = _
  match a with
  | ⟨0, _⟩ =>
    rw [GatherDims.start_batching _ _ _ _ h0, GatherDims.offCoord_eq_zero _ _ _ (fun h => ((GatherDims.mem_sKept _ _).mp h).2 h0), Nat.zero_add, Nat.add_zero]
    unfold GatherDims.batchCoord
    rw [dif_pos h0]
    rfl
  | ⟨1, _⟩ =>
    rw [GatherDims.batchCoord_eq_zero _ _ _ n1, GatherDims.offCoord_eq_zero _ _ _ (fun h => ((GatherDims.mem_sKept _ _).mp h).1 c1), Nat.add_zero]
    unfold GatherDims.start
    rw [dif_pos m1]
    refine congrArg (fun i => min (s i).toInt.toNat 3) ?_
    funext c
    refine Fin.ext ?_
    match c with
    | ⟨0, _⟩ => rfl
    | ⟨1, _⟩ => rfl
    | ⟨2, _⟩ => rfl
    | ⟨3, _⟩ => rfl
  | ⟨2, _⟩ =>
    rw [GatherDims.start_batching _ _ _ _ h2, GatherDims.offCoord_eq_zero _ _ _ (fun h => ((GatherDims.mem_sKept _ _).mp h).2 h2), Nat.zero_add, Nat.add_zero]
    unfold GatherDims.batchCoord
    rw [dif_pos h2]
    rfl

theorem ants_apply (h : ∀ r v, (mf (ix2 r v)).toNat < 4) (b : Fin 1024) (r : Fin 16384) (v : Fin 7) :
    ants mf x (ix3 b r v) = x (ix3 b v ⟨(mf (ix2 r v)).toNat, h r v⟩) := by
  unfold ants
  show Scalar.select (inRange mf (ix3 b r v)) (Host.gather _ _ _ (ix3 b r v)) _ = _
  rw [inRange_apply mf h, gather_apply]
  show transpose S1024x4x7 [0, 2, 1] x transposes_S1024x7x4_S1024x4x7_0_2_1 _ = _
  rw [transpose_apply _ _ _ _ (ix3 b v ⟨(mf (ix2 r v)).toNat, h r v⟩) (fun c => by
    match c with
    | ⟨0, _⟩ => rfl
    | ⟨1, _⟩ =>
      show (mf (ix2 r v)).toNat = min (starts mf (ix4 b r v (0 : Fin 1))).toInt.toNat 3
      rw [starts_apply mf h]
      exact (small_word _ (h r v)).2.2.symm
    | ⟨2, _⟩ => rfl)]

/-- One variable's factors, as a plane. -/
abbrev plane (o : Fin 3 → ℕ) (ho : S1024x16384x7.Slices o S1024x16384x1) (a : FVec F S1024x16384x7 .f32) : FVec F S1024x16384 .f32 :=
  shapeCast _ (extractStridedSlice S1024x16384x1 o a ho) shapeCasts_S1024x16384x1_S1024x16384

theorem plane_apply (v : Fin 7) (ho : S1024x16384x7.Slices ![0, 0, v.val] S1024x16384x1) (a : FVec F S1024x16384x7 .f32) (b : Fin 1024) (r : Fin 16384) :
    plane ![0, 0, v.val] ho a (ix2 b r) = a (ix3 b r v) := by
  unfold plane
  rw [shapeCast_apply _ _ (ix2 b r) (ix3 b r (0 : Fin 1)) (by
    rw [Shape.rowMajor_val_three, Shape.rowMajor_val_two]
    show (b.val * 16384 + r.val) * 1 + 0 = b.val * 16384 + r.val
    omega)]
  exact extractStridedSlice_apply _ _ _ _ (ix3 b r v) (fun c => by
    match c with
    | ⟨0, _⟩ => exact (Nat.zero_add _).symm
    | ⟨1, _⟩ => exact (Nat.zero_add _).symm
    | ⟨2, _⟩ => rfl)

/-- The product of the seven planes. -/
def planes (A : FVec F S1024x16384x7 .f32) : FVec F S1024x16384 .f32 :=
  mulf (mulf (mulf (mulf (mulf (mulf (plane ![0, 0, 0] slices_S1024x16384x7_S1024x16384x1_0_0_0 A) (plane ![0, 0, 1] slices_S1024x16384x7_S1024x16384x1_0_0_1 A))
    (plane ![0, 0, 2] slices_S1024x16384x7_S1024x16384x1_0_0_2 A)) (plane ![0, 0, 3] slices_S1024x16384x7_S1024x16384x1_0_0_3 A))
    (plane ![0, 0, 4] slices_S1024x16384x7_S1024x16384x1_0_0_4 A)) (plane ![0, 0, 5] slices_S1024x16384x7_S1024x16384x1_0_0_5 A))
    (plane ![0, 0, 6] slices_S1024x16384x7_S1024x16384x1_0_0_6 A)

/-- The reference's result is the product of its planes. -/
theorem res_eq (m : (ℓ : Loc nD τ sig) → Buf (Elt F) ℓ) (c : Dev nD) :
    Cert.ReferenceIdeal.Value.res_main_v23 m c
      = planes (ants (m ((c.tc : Thread nD τ).loc main_arg1)) (m ((c.tc : Thread nD τ).loc main_arg0))) := by
  unfold Cert.ReferenceIdeal.Value.res_main_v23 planes ants inRange starts
  rfl

/-! ## The precondition -/

theorem digit_of_pre {x : FVec F Cert.Pre_cartesian.S1024x7x4 .f32} {mf : IVec Cert.Pre_cartesian.S16384x7 32}
    (h : Cert.Pre_cartesian.fn x mf = fun _ => 1#1) (r : Fin 16384) (v : Fin 7) :
    (mf (ix2 r v)).toNat = r.val / 4 ^ (6 - v.val) % 4 := by
  have e := congrFun h ix0
  unfold Cert.Pre_cartesian.fn at e
  haveI : Subsingleton Cert.Pre_cartesian.S_.Idx := ⟨fun a b => funext fun k => k.elim0⟩
  have e := Host.reduce_andi_all _ _ _ _ _ e (ix2 r v)
  have e : IntOp.cmpi .eq (mf (ix2 r v)) (IntOp.andi (IntOp.shrui .host (BitVec.ofNat 32 r.val) (IntOp.muli 2#32 (IntOp.subi 6#32 (BitVec.ofNat 32 v.val)))) 3#32) = 1#1 := e
  have hr := r.isLt
  rw [StableHlo.Predicate.cmpi_eq_iff.mp e]
  unfold IntOp.andi IntOp.shrui IntOp.muli IntOp.subi
  have key : ∀ k : ℕ, k < 32 → ((BitVec.ofNat 32 r.val >>> BitVec.ofNat 32 k) &&& 3#32).toNat = r.val / 2 ^ k % 4 := by
    intro k hk
    rw [BitVec.toNat_and, BitVec.ushiftRight_eq', BitVec.toNat_ushiftRight, BitVec.toNat_ofNat, BitVec.toNat_ofNat, Nat.mod_eq_of_lt (by omega : r.val < 2 ^ 32),
      Nat.mod_eq_of_lt (by omega : k < 2 ^ 32), Nat.shiftRight_eq_div_pow]
    exact Nat.and_two_pow_sub_one_eq_mod _ 2
  fin_cases v
  · exact key 12 (by decide)
  · exact key 10 (by decide)
  · exact key 8 (by decide)
  · exact key 6 (by decide)
  · exact key 4 (by decide)
  · exact key 2 (by decide)
  · exact key 0 (by decide)

end Cert.Proof.Factors
-- ==== Proof.Equal.lean ====
/-
  The kernel's result and the reference's are one product, bracketed two ways: what the tiles leave at row `b` and rule
  `r` is the product of the seven words that the base-4 digits of `r` name.
-/
module

public import proofs.«01_k».proof.Proof.Launch
public import proofs.«01_k».proof.Proof.Factors

@[expose] public section

noncomputable section

namespace Cert.Proof.Equal

open Cert.KernelIdeal Cert.KernelIdeal.Gen
open Cert.Proof.Krao Cert.Proof.Factors
open Idealize.ShloMosaic Idealize.ShloMosaic.ValueIdx

/-! ## The kernel's side -/

variable {F : FTy → Type} [FloatOps F] in
/-- The flat input holds row `b`, variable `v`, set `j` at word `28 b + 4 v + j`. -/
theorem word_at (m : (ℓ : Loc nD τ sig) → Buf (Elt F) ℓ) (d : Dev nD) (b : Fin 1024) (v : Fin 7) (j : Fin 4) (n : ℕ)
    (hn : n = 28 * b.val + 4 * v.val + j.val) : wordsOf (flat m d) n = (m (aLoc d) : S1024x7x4.Idx → F .f32) (ix3 b v j) := by
  have hb := b.isLt
  have hv := v.isLt
  have hj := j.isLt
  unfold wordsOf flat opFlat
  rw [StableHlo.reshape_result']
  show shapeCast S28672 (m (aLoc d) : S1024x7x4.Idx → F .f32) shapeCasts_S1024x7x4_S28672 _ = _
  refine shapeCast_apply _ _ _ (ix3 b v j) ?_
  rw [Shape.rowMajor_val_three, Shape.rowMajor_val_one]
  show (b.val * 7 + v.val) * 4 + j.val = n % 28672
  omega

/-- The word that digit `v` of `k` names in row `b`. -/
def word (X : ℕ → EReal) (b k v : ℕ) : EReal := X (28 * b + 4 * v + k / 4 ^ (6 - v) % 4)

theorem outV_eq (X : ℕ → Ideal .f32) (b k : ℕ) (hk : k < 16384) :
    outV (F := Ideal) X b k = word X b k 0 * word X b k 1 * word X b k 2 * word X b k 3 * word X b k 4 * word X b k 5 * word X b k 6 := by
  have e : outV (F := Ideal) X b k
      = (X (28 * b + k / 256 / 16) * (X (28 * b + 4 * 1 + k / 256 % 16 / 4) * X (28 * b + 4 * 2 + k / 256 % 16 % 4)) : EReal)
        * ((X (28 * b + 4 * 3 + k % 256 / 16 / 4) * X (28 * b + 4 * 4 + k % 256 / 16 % 4))
          * (X (28 * b + 4 * 5 + k % 16 / 4) * X (28 * b + 4 * 6 + k % 16 % 4))) := rfl
  rw [e]
  unfold word
  rw [show 28 * b + k / 256 / 16 = 28 * b + 4 * 0 + k / 4 ^ (6 - 0) % 4 by norm_num <;> omega,
    show k / 256 % 16 / 4 = k / 4 ^ (6 - 1) % 4 by norm_num <;> omega, show k / 256 % 16 % 4 = k / 4 ^ (6 - 2) % 4 by norm_num <;> omega,
    show k % 256 / 16 / 4 = k / 4 ^ (6 - 3) % 4 by norm_num <;> omega, show k % 256 / 16 % 4 = k / 4 ^ (6 - 4) % 4 by norm_num <;> omega,
    show k % 16 / 4 = k / 4 ^ (6 - 5) % 4 by norm_num <;> omega, show k % 16 % 4 = k / 4 ^ (6 - 6) % 4 by norm_num]
  simp only [mul_assoc]

/-! ## The two results -/

/-- One factor: what the reference's plane of variable `v` holds is the word that digit `v` names. -/
theorem factor_eq (m : (ℓ : Loc nD τ sig) → Buf (Elt Ideal) ℓ) (c : Dev nD) (mf : IVec Cert.ReferenceIdeal.S16384x7 32)
    (x : FVec Ideal Cert.ReferenceIdeal.S1024x7x4 .f32) (hx : (m (aLoc c) : S1024x7x4.Idx → EReal) = x)
    (hd : ∀ (r : Fin 16384) (v : Fin 7), (mf (ix2 r v)).toNat = r.val / 4 ^ (6 - v.val) % 4)
    (v : Fin 7) (ho : Cert.ReferenceIdeal.S1024x16384x7.Slices ![0, 0, v.val] Cert.ReferenceIdeal.S1024x16384x1) (b : Fin 1024) (r : Fin 16384) :
    plane (F := Ideal) ![0, 0, v.val] ho (ants mf x) (ix2 b r) = word (wordsOf (flat m c)) b.val r.val v.val := by
  have hs : ∀ (r : Fin 16384) (v : Fin 7), (mf (ix2 r v)).toNat < 4 := fun r v => by
    rw [hd]; exact Nat.mod_lt _ (by decide)
  rw [plane_apply, ants_apply _ _ hs]
  unfold word
  rw [word_at m c b v ⟨(mf (ix2 r v)).toNat, hs r v⟩ _ (by rw [← hd]), hx]

/-- The product of the planes is what the tiles leave. -/
theorem product_eq (X : ℕ → Ideal .f32) (A : FVec Ideal Cert.ReferenceIdeal.S1024x16384x7 .f32) (b : Fin 1024) (r : Fin 16384)
    (hf : ∀ (v : Fin 7) (ho : Cert.ReferenceIdeal.S1024x16384x7.Slices ![0, 0, v.val] Cert.ReferenceIdeal.S1024x16384x1),
      plane (F := Ideal) ![0, 0, v.val] ho A (ix2 b r) = word X b.val r.val v.val) :
    planes A (ix2 b r) = outV (F := Ideal) X b.val r.val := by
  rw [outV_eq _ _ _ r.isLt]
  unfold planes
  simp only [mulf_apply]
  have e : ∀ (v : Fin 7) (n : ℕ) (_ : v.val = n) (ho : Cert.ReferenceIdeal.S1024x16384x7.Slices ![0, 0, n] Cert.ReferenceIdeal.S1024x16384x1),
      plane (F := Ideal) ![0, 0, n] ho A (ix2 b r) = word X b.val r.val n := fun v n hn ho => by
    subst hn
    exact hf v ho
  rw [e 0 0 rfl, e 1 1 rfl, e 2 2 rfl, e 3 3 rfl, e 4 4 rfl, e 5 5 rfl, e 6 6 rfl]

theorem results_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (hp : Cert.Pre_cartesian.fn (F := Ideal) (m (aLoc c)) (m (bLoc c)) = fun _ => 1#1)
    (h0 : m' ((c.tc : Thread Cert.ReferenceIdeal.nD Cert.ReferenceIdeal.τ).loc Cert.ReferenceIdeal.main_arg0) = m (aLoc c))
    (h1 : m' ((c.tc : Thread Cert.ReferenceIdeal.nD Cert.ReferenceIdeal.τ).loc Cert.ReferenceIdeal.main_arg1) = m (bLoc c)) :
    (Cert.ReferenceIdeal.Value.res_main_v23 m' c : S1024x16384.Idx → EReal) = OUT m c := by
  rw [← h0, ← h1] at hp
  rw [res_eq]
  funext z
  obtain ⟨b, r, rfl⟩ : ∃ (b : Fin 1024) (r : Fin 16384), z = ix2 b r := ⟨z 0, z 1, funext fun a => by fin_cases a <;> rfl⟩
  exact product_eq (wordsOf (flat m c)) _ b r fun v ho => factor_eq m c _ _ h0.symm (digit_of_pre hp) v ho b r

end Cert.Proof.Equal
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_cartesian
public import proofs.«01_k».proof.Proof.Launch
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem

/-- A reference of host operations only: its run, and no semaphore to return to zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2, sem_eq_zero_of_no_sems (by decide) r.2⟩) (Cert.ReferenceIdeal.Value.run m g)

theorem kernel_frame : quiescent_Kernel := fun m g _ =>
  (θ_run _ _ _).mono (fun _ h => ⟨fun c => ⟨(h.1 c).1, (h.1 c).2.1⟩, h.2⟩) (Cert.Proof.Krao.run_main (F := Bits) m g)

theorem ideal_frame (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run _ _ _).mono (fun _ h => ⟨fun c => ⟨(h.1 c).1, (h.1 c).2.1⟩, h.2⟩) (Cert.Proof.Krao.run_main (F := Ideal) m g)

theorem results_agree : algebraic_KernelIdeal_ReferenceIdeal_pre_cartesian := fun m g m' g' hp ha =>
  ⟨fun c => Cert.Proof.Krao.OUT m c,
    (θ_run _ _ _).mono (fun _ h c => ⟨(h.1 c).2.2, (h.1 c).1, (h.1 c).2.1⟩) (Cert.Proof.Krao.run_main (F := Ideal) m g),
    (θ_run _ _ _).mono (fun _ h c => ⟨(h c).1.trans (Cert.Proof.Equal.results_eq m m' c (hp c) (ha c).1 (ha c).2), (h c).2⟩)
      (Cert.ReferenceIdeal.Value.run m' g')⟩

theorem claim : Cert.Claim := ⟨Cert.Kernel.Gen.facts, Cert.KernelIdeal.Gen.facts, Cert.ReferenceIdeal.Gen.facts, Cert.Pre_cartesian.Gen.facts,
  kernel_frame, fun m g _ => ideal_frame m g, fun m g _ => ideal_frame m g, fun m g _ => reference_frame m g, fun m g _ => reference_frame m g, trivial,
  results_agree⟩

end Cert.Proof

end
